-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv23" .f32 0x3D321643#32 ((1 / 23 : ℝ) : EReal)
  ∧ IdealRules.named_const.Statement Cert.KernelIdeal.κ "inv719" .f32 0x3AB64C32#32 ((1 / 719 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x720x512 : Shape := ⟨3, ![32, 720, 512]⟩
abbrev S768x7 : Shape := ⟨2, ![768, 7]⟩
abbrev S768x256 : Shape := ⟨2, ![768, 256]⟩
abbrev S768 : Shape := ⟨1, ![768]⟩
abbrev S768x16 : Shape := ⟨2, ![768, 16]⟩
abbrev S14x16 : Shape := ⟨2, ![14, 16]⟩
abbrev S4x256 : Shape := ⟨2, ![4, 256]⟩
abbrev S4 : Shape := ⟨1, ![4]⟩
abbrev S768x1 : Shape := ⟨2, ![768, 1]⟩
abbrev S16x14 : Shape := ⟨2, ![16, 14]⟩
abbrev S4x1 : Shape := ⟨2, ![4, 1]⟩
abbrev S56x16384 : Shape := ⟨2, ![56, 16384]⟩
abbrev S2x720x512 : Shape := ⟨3, ![2, 720, 512]⟩
abbrev S56x1024 : Shape := ⟨2, ![56, 1024]⟩
abbrev S8x128 : Shape := ⟨2, ![8, 128]⟩
abbrev S2x1x512 : Shape := ⟨3, ![2, 1, 512]⟩
abbrev S2x719x512 : Shape := ⟨3, ![2, 719, 512]⟩
abbrev S2x718x512 : Shape := ⟨3, ![2, 718, 512]⟩
abbrev S2x30x24x512 : Shape := ⟨4, ![2, 30, 24, 512]⟩
abbrev S2x30x512 : Shape := ⟨3, ![2, 30, 512]⟩
abbrev S2x30x1x512 : Shape := ⟨4, ![2, 30, 1, 512]⟩
abbrev S2x512 : Shape := ⟨2, ![2, 512]⟩
abbrev S30x1 : Shape := ⟨2, ![30, 1]⟩
abbrev S1x30x512 : Shape := ⟨3, ![1, 30, 512]⟩
abbrev S30x512 : Shape := ⟨2, ![30, 512]⟩
abbrev S30x1024 : Shape := ⟨2, ![30, 1024]⟩
abbrev S1x512 : Shape := ⟨2, ![1, 512]⟩
abbrev S1x1024 : Shape := ⟨2, ![1, 1024]⟩
abbrev S30x1x1024 : Shape := ⟨3, ![30, 1, 1024]⟩
abbrev S30x7x1024 : Shape := ⟨3, ![30, 7, 1024]⟩
abbrev S1x1x512 : Shape := ⟨3, ![1, 1, 512]⟩
abbrev S4x1024 : Shape := ⟨2, ![4, 1024]⟩
abbrev S256x1024 : Shape := ⟨2, ![256, 1024]⟩
abbrev S1x7x1024 : Shape := ⟨3, ![1, 7, 1024]⟩
abbrev S7x1024 : Shape := ⟨2, ![7, 1024]⟩
abbrev S768x1024 : Shape := ⟨2, ![768, 1024]⟩
abbrev S768x14 : Shape := ⟨2, ![768, 14]⟩
abbrev S256x1 : Shape := ⟨2, ![256, 1]⟩
abbrev S14x4x32x512 : Shape := ⟨4, ![14, 4, 32, 512]⟩
abbrev S32x14x4x512 : Shape := ⟨4, ![32, 14, 4, 512]⟩

abbrev nBuf : Space → Nat
  | .hbm => 22
  | .vmem => 18
  | .smem => 0
  | _ => 0

abbrev bufTy : (tb : Table) → Fin (tcTables nBuf tb) → BufTy
  | .hbm, ⟨0, _⟩ => ⟨S32x720x512, .f32⟩
  | .hbm, ⟨1, _⟩ => ⟨S768x7, .f32⟩
  | .hbm, ⟨2, _⟩ => ⟨S768x256, .f32⟩
  | .hbm, ⟨3, _⟩ => ⟨S768, .f32⟩
  | .hbm, ⟨4, _⟩ => ⟨S768, .f32⟩
  | .hbm, ⟨5, _⟩ => ⟨S768x16, .f32⟩
  | .hbm, ⟨6, _⟩ => ⟨S768x256, .f32⟩
  | .hbm, ⟨7, _⟩ => ⟨S768, .f32⟩
  | .hbm, ⟨8, _⟩ => ⟨S768, .f32⟩
  | .hbm, ⟨9, _⟩ => ⟨S14x16, .f32⟩
  | .hbm, ⟨10, _⟩ => ⟨S4x256, .f32⟩
  | .hbm, ⟨11, _⟩ => ⟨S4, .f32⟩
  | .hbm, ⟨12, _⟩ => ⟨S768x1, .f32⟩
  | .hbm, ⟨13, _⟩ => ⟨S768x1, .f32⟩
  | .hbm, ⟨14, _⟩ => ⟨S768x1, .f32⟩
  | .hbm, ⟨15, _⟩ => ⟨S768x1, .f32⟩
  | .hbm, ⟨16, _⟩ => ⟨S16x14, .f32⟩
  | .hbm, ⟨17, _⟩ => ⟨S4x1, .f32⟩
  | .hbm, ⟨18, _⟩ => ⟨S32x720x512, .f32⟩
  | .hbm, ⟨19, _⟩ => ⟨S56x16384, .f32⟩
  | .hbm, ⟨20, _⟩ => ⟨S14x4x32x512, .f32⟩
  | .hbm, ⟨21, _⟩ => ⟨S32x14x4x512, .f32⟩
  | .local _ .vmem, ⟨0, _⟩ => ⟨S2x720x512, .f32⟩
  | .local _ .vmem, ⟨1, _⟩ => ⟨S2x720x512, .f32⟩
  | .local _ .vmem, ⟨2, _⟩ => ⟨S768x7, .f32⟩
  | .local _ .vmem, ⟨3, _⟩ => ⟨S768x256, .f32⟩
  | .local _ .vmem, ⟨4, _⟩ => ⟨S768x1, .f32⟩
  | .local _ .vmem, ⟨5, _⟩ => ⟨S768x1, .f32⟩
  | .local _ .vmem, ⟨6, _⟩ => ⟨S768x16, .f32⟩
  | .local _ .vmem, ⟨7, _⟩ => ⟨S768x256, .f32⟩
  | .local _ .vmem, ⟨8, _⟩ => ⟨S768x1, .f32⟩
  | .local _ .vmem, ⟨9, _⟩ => ⟨S768x1, .f32⟩
  | .local _ .vmem, ⟨10, _⟩ => ⟨S16x14, .f32⟩
  | .local _ .vmem, ⟨11, _⟩ => ⟨S4x256, .f32⟩
  | .local _ .vmem, ⟨12, _⟩ => ⟨S4x1, .f32⟩
  | .local _ .vmem, ⟨13, _⟩ => ⟨S2x720x512, .f32⟩
  | .local _ .vmem, ⟨14, _⟩ => ⟨S2x720x512, .f32⟩
  | .local _ .vmem, ⟨15, _⟩ => ⟨S56x1024, .f32⟩
  | .local _ .vmem, ⟨16, _⟩ => ⟨S56x1024, .f32⟩
  | .local _ .vmem, ⟨17, _⟩ => ⟨S8x128, .f32⟩
  | _, _ => ⟨S32x720x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x720x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x14 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x720x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S56x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "inv23" => some ((1 / 23 : ℝ) : EReal)
  | "inv719" => some ((1 / 719 : ℝ) : EReal)
  | _ => none
-- ==== ReferenceIdeal.lean ====
abbrev S32x720x512 : Shape := ⟨3, ![32, 720, 512]⟩
abbrev S768x7 : Shape := ⟨2, ![768, 7]⟩
abbrev S768x256 : Shape := ⟨2, ![768, 256]⟩
abbrev S768 : Shape := ⟨1, ![768]⟩
abbrev S768x16 : Shape := ⟨2, ![768, 16]⟩
abbrev S14x16 : Shape := ⟨2, ![14, 16]⟩
abbrev S4x256 : Shape := ⟨2, ![4, 256]⟩
abbrev S4 : Shape := ⟨1, ![4]⟩
abbrev S_ : Shape := ⟨0, ![]⟩
abbrev S32x1x512 : Shape := ⟨3, ![32, 1, 512]⟩
abbrev S32x721x512 : Shape := ⟨3, ![32, 721, 512]⟩
abbrev S32x722x512 : Shape := ⟨3, ![32, 722, 512]⟩
abbrev S32x2x512 : Shape := ⟨3, ![32, 2, 512]⟩
abbrev S32x724x512 : Shape := ⟨3, ![32, 724, 512]⟩
abbrev S32x30x24x512 : Shape := ⟨4, ![32, 30, 24, 512]⟩
abbrev S32x30x512 : Shape := ⟨3, ![32, 30, 512]⟩
abbrev S32x30x1x512 : Shape := ⟨4, ![32, 30, 1, 512]⟩
abbrev S32x512 : Shape := ⟨2, ![32, 512]⟩
abbrev S32x30x7x512 : Shape := ⟨4, ![32, 30, 7, 512]⟩
abbrev S32x1x4x512 : Shape := ⟨4, ![32, 1, 4, 512]⟩
abbrev S32x4x512 : Shape := ⟨3, ![32, 4, 512]⟩
abbrev S30x32x512x7 : Shape := ⟨4, ![30, 32, 512, 7]⟩
abbrev S30x16384x7 : Shape := ⟨3, ![30, 16384, 7]⟩
abbrev S7x768 : Shape := ⟨2, ![7, 768]⟩
abbrev S30x16384x768 : Shape := ⟨3, ![30, 16384, 768]⟩
abbrev S1x1x768 : Shape := ⟨3, ![1, 1, 768]⟩
abbrev S16x768 : Shape := ⟨2, ![16, 768]⟩
abbrev S14x768 : Shape := ⟨2, ![14, 768]⟩
abbrev S1x768 : Shape := ⟨2, ![1, 768]⟩
abbrev S14x1x768 : Shape := ⟨3, ![14, 1, 768]⟩
abbrev S14x16384x768 : Shape := ⟨3, ![14, 16384, 768]⟩
abbrev S16384x256 : Shape := ⟨2, ![16384, 256]⟩
abbrev S44 : Shape := ⟨1, ![44]⟩
abbrev S44x16384x768 : Shape := ⟨3, ![44, 16384, 768]⟩
abbrev S44x16384x256 : Shape := ⟨3, ![44, 16384, 256]⟩
abbrev S1 : Shape := ⟨1, ![1]⟩
abbrev S1x16384x768 : Shape := ⟨3, ![1, 16384, 768]⟩
abbrev S16384x768 : Shape := ⟨2, ![16384, 768]⟩
abbrev S256x768 : Shape := ⟨2, ![256, 768]⟩
abbrev S1x16384x256 : Shape := ⟨3, ![1, 16384, 256]⟩
abbrev S14x16384x256 : Shape := ⟨3, ![14, 16384, 256]⟩
abbrev S256x4 : Shape := ⟨2, ![256, 4]⟩
abbrev S14x16384x4 : Shape := ⟨3, ![14, 16384, 4]⟩
abbrev S1x1x4 : Shape := ⟨3, ![1, 1, 4]⟩
abbrev S14x32x512x4 : Shape := ⟨4, ![14, 32, 512, 4]⟩
abbrev S32x14x4x512 : Shape := ⟨4, ![32, 14, 4, 512]⟩

abbrev nBuf : Space → Nat
  | .hbm => 327
  | .vmem => 0
  | .smem => 0
  | _ => 0

abbrev hbmTy0_0 (i : Nat) : BufTy := match i % 128 with
  | 0 => ⟨S32x720x512, .f32⟩
  | 1 => ⟨S768x7, .f32⟩
  | 2 => ⟨S768x256, .f32⟩
  | 3 => ⟨S768, .f32⟩
  | 4 => ⟨S768, .f32⟩
  | 5 => ⟨S768x16, .f32⟩
  | 6 => ⟨S768x256, .f32⟩
  | 7 => ⟨S768, .f32⟩
  | 8 => ⟨S768, .f32⟩
  | 9 => ⟨S14x16, .f32⟩
  | 10 => ⟨S4x256, .f32⟩
  | 11 => ⟨S4, .f32⟩
  | 12 => ⟨S_, .i32⟩
  | 13 => ⟨S32x1x512, .f32⟩
  | 14 => ⟨S32x1x512, .f32⟩
  | 15 => ⟨S32x1x512, .f32⟩
  | 16 => ⟨S32x721x512, .f32⟩
  | 17 => ⟨S32x1x512, .f32⟩
  | 18 => ⟨S32x1x512, .f32⟩
  | 19 => ⟨S32x1x512, .f32⟩
  | 20 => ⟨S32x722x512, .f32⟩
  | 21 => ⟨S32x720x512, .f32⟩
  | 22 => ⟨S_, .f32⟩
  | 23 => ⟨S32x720x512, .f32⟩
  | 24 => ⟨S32x720x512, .f32⟩
  | 25 => ⟨S32x720x512, .f32⟩
  | 26 => ⟨S_, .f32⟩
  | 27 => ⟨S32x720x512, .f32⟩
  | 28 => ⟨S32x720x512, .f32⟩
  | 29 => ⟨S32x720x512, .f32⟩
  | 30 => ⟨S32x720x512, .f32⟩
  | 31 => ⟨S_, .i32⟩
  | 32 => ⟨S32x1x512, .f32⟩
  | 33 => ⟨S32x1x512, .f32⟩
  | 34 => ⟨S32x1x512, .f32⟩
  | 35 => ⟨S32x721x512, .f32⟩
  | 36 => ⟨S32x1x512, .f32⟩
  | 37 => ⟨S32x1x512, .f32⟩
  | 38 => ⟨S32x1x512, .f32⟩
  | 39 => ⟨S32x722x512, .f32⟩
  | 40 => ⟨S32x720x512, .f32⟩
  | 41 => ⟨S_, .f32⟩
  | 42 => ⟨S32x720x512, .f32⟩
  | 43 => ⟨S32x720x512, .f32⟩
  | 44 => ⟨S32x720x512, .f32⟩
  | 45 => ⟨S_, .f32⟩
  | 46 => ⟨S32x720x512, .f32⟩
  | 47 => ⟨S32x720x512, .f32⟩
  | 48 => ⟨S32x720x512, .f32⟩
  | 49 => ⟨S32x720x512, .f32⟩
  | 50 => ⟨S_, .i32⟩
  | 51 => ⟨S32x1x512, .f32⟩
  | 52 => ⟨S32x2x512, .f32⟩
  | 53 => ⟨S32x2x512, .f32⟩
  | 54 => ⟨S32x722x512, .f32⟩
  | 55 => ⟨S32x1x512, .f32⟩
  | 56 => ⟨S32x2x512, .f32⟩
  | 57 => ⟨S32x2x512, .f32⟩
  | 58 => ⟨S32x724x512, .f32⟩
  | 59 => ⟨S32x720x512, .f32⟩
  | 60 => ⟨S_, .f32⟩
  | 61 => ⟨S32x720x512, .f32⟩
  | 62 => ⟨S32x720x512, .f32⟩
  | 63 => ⟨S32x720x512, .f32⟩
  | 64 => ⟨S_, .f32⟩
  | 65 => ⟨S32x720x512, .f32⟩
  | 66 => ⟨S32x720x512, .f32⟩
  | 67 => ⟨S32x720x512, .f32⟩
  | 68 => ⟨S32x720x512, .f32⟩
  | 69 => ⟨S32x30x24x512, .f32⟩
  | 70 => ⟨S_, .f32⟩
  | 71 => ⟨S32x30x512, .f32⟩
  | 72 => ⟨S_, .f32⟩
  | 73 => ⟨S32x30x512, .f32⟩
  | 74 => ⟨S32x30x512, .f32⟩
  | 75 => ⟨S32x30x24x512, .f32⟩
  | 76 => ⟨S_, .f32⟩
  | 77 => ⟨S32x30x512, .f32⟩
  | 78 => ⟨S32x30x1x512, .f32⟩
  | 79 => ⟨S_, .f32⟩
  | 80 => ⟨S32x30x1x512, .f32⟩
  | 81 => ⟨S32x30x1x512, .f32⟩
  | 82 => ⟨S32x30x24x512, .f32⟩
  | 83 => ⟨S32x30x24x512, .f32⟩
  | 84 => ⟨S32x30x24x512, .f32⟩
  | 85 => ⟨S_, .f32⟩
  | 86 => ⟨S32x30x512, .f32⟩
  | 87 => ⟨S_, .f32⟩
  | 88 => ⟨S32x30x512, .f32⟩
  | 89 => ⟨S32x30x512, .f32⟩
  | 90 => ⟨S32x30x512, .f32⟩
  | 91 => ⟨S_, .f32⟩
  | 92 => ⟨S32x30x512, .f32⟩
  | 93 => ⟨S32x30x512, .f32⟩
  | 94 => ⟨S32x30x24x512, .f32⟩
  | 95 => ⟨S_, .f32⟩
  | 96 => ⟨S32x30x512, .f32⟩
  | 97 => ⟨S32x30x1x512, .f32⟩
  | 98 => ⟨S_, .f32⟩
  | 99 => ⟨S32x30x1x512, .f32⟩
  | 100 => ⟨S32x30x1x512, .f32⟩
  | 101 => ⟨S32x30x24x512, .f32⟩
  | 102 => ⟨S32x30x24x512, .f32⟩
  | 103 => ⟨S32x30x24x512, .f32⟩
  | 104 => ⟨S_, .f32⟩
  | 105 => ⟨S32x30x512, .f32⟩
  | 106 => ⟨S_, .f32⟩
  | 107 => ⟨S32x30x512, .f32⟩
  | 108 => ⟨S32x30x512, .f32⟩
  | 109 => ⟨S32x30x512, .f32⟩
  | 110 => ⟨S_, .f32⟩
  | 111 => ⟨S32x30x512, .f32⟩
  | 112 => ⟨S32x30x512, .f32⟩
  | 113 => ⟨S32x30x24x512, .f32⟩
  | 114 => ⟨S_, .f32⟩
  | 115 => ⟨S32x30x512, .f32⟩
  | 116 => ⟨S32x30x1x512, .f32⟩
  | 117 => ⟨S_, .f32⟩
  | 118 => ⟨S32x30x1x512, .f32⟩
  | 119 => ⟨S32x30x1x512, .f32⟩
  | 120 => ⟨S32x30x24x512, .f32⟩
  | 121 => ⟨S32x30x24x512, .f32⟩
  | 122 => ⟨S32x30x24x512, .f32⟩
  | 123 => ⟨S_, .f32⟩
  | 124 => ⟨S32x30x512, .f32⟩
  | 125 => ⟨S_, .f32⟩
  | 126 => ⟨S32x30x512, .f32⟩
  | 127 => ⟨S32x30x512, .f32⟩
  | _ => ⟨S32x720x512, .f32⟩

abbrev hbmTy0_1 (i : Nat) : BufTy := match i % 128 with
  | 0 => ⟨S32x30x512, .f32⟩
  | 1 => ⟨S_, .f32⟩
  | 2 => ⟨S32x30x512, .f32⟩
  | 3 => ⟨S32x30x512, .f32⟩
  | 4 => ⟨S32x30x24x512, .f32⟩
  | 5 => ⟨S32x30x24x512, .f32⟩
  | 6 => ⟨S_, .f32⟩
  | 7 => ⟨S32x30x512, .f32⟩
  | 8 => ⟨S_, .f32⟩
  | 9 => ⟨S32x30x512, .f32⟩
  | 10 => ⟨S32x30x512, .f32⟩
  | 11 => ⟨S32x30x24x512, .f32⟩
  | 12 => ⟨S32x30x24x512, .f32⟩
  | 13 => ⟨S_, .f32⟩
  | 14 => ⟨S32x30x512, .f32⟩
  | 15 => ⟨S_, .f32⟩
  | 16 => ⟨S32x30x512, .f32⟩
  | 17 => ⟨S32x30x512, .f32⟩
  | 18 => ⟨S32x30x512, .f32⟩
  | 19 => ⟨S32x30x24x512, .f32⟩
  | 20 => ⟨S32x30x24x512, .f32⟩
  | 21 => ⟨S_, .f32⟩
  | 22 => ⟨S32x30x512, .f32⟩
  | 23 => ⟨S_, .f32⟩
  | 24 => ⟨S32x30x512, .f32⟩
  | 25 => ⟨S32x30x512, .f32⟩
  | 26 => ⟨S32x30x24x512, .f32⟩
  | 27 => ⟨S32x30x24x512, .f32⟩
  | 28 => ⟨S_, .f32⟩
  | 29 => ⟨S32x30x512, .f32⟩
  | 30 => ⟨S_, .f32⟩
  | 31 => ⟨S32x30x512, .f32⟩
  | 32 => ⟨S32x30x512, .f32⟩
  | 33 => ⟨S32x30x512, .f32⟩
  | 34 => ⟨S32x30x512, .f32⟩
  | 35 => ⟨S_, .f32⟩
  | 36 => ⟨S32x30x512, .f32⟩
  | 37 => ⟨S32x30x512, .f32⟩
  | 38 => ⟨S32x30x512, .f32⟩
  | 39 => ⟨S_, .f32⟩
  | 40 => ⟨S32x512, .f32⟩
  | 41 => ⟨S_, .f32⟩
  | 42 => ⟨S32x512, .f32⟩
  | 43 => ⟨S32x512, .f32⟩
  | 44 => ⟨S_, .f32⟩
  | 45 => ⟨S32x512, .f32⟩
  | 46 => ⟨S32x1x512, .f32⟩
  | 47 => ⟨S_, .f32⟩
  | 48 => ⟨S32x1x512, .f32⟩
  | 49 => ⟨S32x1x512, .f32⟩
  | 50 => ⟨S32x720x512, .f32⟩
  | 51 => ⟨S32x720x512, .f32⟩
  | 52 => ⟨S32x720x512, .f32⟩
  | 53 => ⟨S_, .f32⟩
  | 54 => ⟨S32x512, .f32⟩
  | 55 => ⟨S_, .f32⟩
  | 56 => ⟨S32x512, .f32⟩
  | 57 => ⟨S32x512, .f32⟩
  | 58 => ⟨S32x512, .f32⟩
  | 59 => ⟨S_, .f32⟩
  | 60 => ⟨S32x512, .f32⟩
  | 61 => ⟨S32x512, .f32⟩
  | 62 => ⟨S32x30x512, .f32⟩
  | 63 => ⟨S32x30x512, .f32⟩
  | 64 => ⟨S32x30x512, .f32⟩
  | 65 => ⟨S32x1x512, .f32⟩
  | 66 => ⟨S32x30x512, .f32⟩
  | 67 => ⟨S32x512, .f32⟩
  | 68 => ⟨S32x1x512, .f32⟩
  | 69 => ⟨S32x30x512, .f32⟩
  | 70 => ⟨S32x30x1x512, .f32⟩
  | 71 => ⟨S32x30x1x512, .f32⟩
  | 72 => ⟨S32x30x1x512, .f32⟩
  | 73 => ⟨S32x30x1x512, .f32⟩
  | 74 => ⟨S32x30x1x512, .f32⟩
  | 75 => ⟨S32x30x1x512, .f32⟩
  | 76 => ⟨S32x30x1x512, .f32⟩
  | 77 => ⟨S32x30x7x512, .f32⟩
  | 78 => ⟨S32x1x4x512, .f32⟩
  | 79 => ⟨S32x4x512, .f32⟩
  | 80 => ⟨S30x32x512x7, .f32⟩
  | 81 => ⟨S30x16384x7, .f32⟩
  | 82 => ⟨S7x768, .f32⟩
  | 83 => ⟨S30x16384x768, .f32⟩
  | 84 => ⟨S1x1x768, .f32⟩
  | 85 => ⟨S30x16384x768, .f32⟩
  | 86 => ⟨S30x16384x768, .f32⟩
  | 87 => ⟨S16x768, .f32⟩
  | 88 => ⟨S14x768, .f32⟩
  | 89 => ⟨S1x768, .f32⟩
  | 90 => ⟨S14x768, .f32⟩
  | 91 => ⟨S14x768, .f32⟩
  | 92 => ⟨S14x1x768, .f32⟩
  | 93 => ⟨S14x16384x768, .f32⟩
  | 94 => ⟨S_, .f32⟩
  | 95 => ⟨S16384x256, .f32⟩
  | 96 => ⟨S44, .i32⟩
  | 97 => ⟨S44x16384x768, .f32⟩
  | 98 => ⟨S_, .f32⟩
  | 99 => ⟨S44x16384x256, .f32⟩
  | 100 => ⟨S_, .i32⟩
  | 101 => ⟨S44, .i32⟩
  | 102 => ⟨S44x16384x768, .f32⟩
  | 103 => ⟨S768x256, .f32⟩
  | 104 => ⟨S768x256, .f32⟩
  | 105 => ⟨S768, .f32⟩
  | 106 => ⟨S768, .f32⟩
  | 107 => ⟨S_, .i32⟩
  | 108 => ⟨S16384x256, .f32⟩
  | 109 => ⟨S44x16384x256, .f32⟩
  | 110 => ⟨S_, .i32⟩
  | 111 => ⟨S_, .i1⟩
  | 112 => ⟨S1, .i32⟩
  | 113 => ⟨S_, .i32⟩
  | 114 => ⟨S_, .i32⟩
  | 115 => ⟨S_, .i32⟩
  | 116 => ⟨S1x16384x768, .f32⟩
  | 117 => ⟨S16384x768, .f32⟩
  | 118 => ⟨S_, .i32⟩
  | 119 => ⟨S_, .i1⟩
  | 120 => ⟨S768x256, .f32⟩
  | 121 => ⟨S_, .i32⟩
  | 122 => ⟨S_, .i1⟩
  | 123 => ⟨S768, .f32⟩
  | 124 => ⟨S256x768, .f32⟩
  | 125 => ⟨S16384x768, .f32⟩
  | 126 => ⟨S1x768, .f32⟩
  | 127 => ⟨S16384x768, .f32⟩
  | _ => ⟨S32x720x512, .f32⟩

abbrev hbmTy0_2 (i : Nat) : BufTy := match i % 128 with
  | 0 => ⟨S16384x768, .f32⟩
  | 1 => ⟨S16384x256, .f32⟩
  | 2 => ⟨S16384x256, .f32⟩
  | 3 => ⟨S16384x256, .f32⟩
  | 4 => ⟨S16384x256, .f32⟩
  | 5 => ⟨S16384x256, .f32⟩
  | 6 => ⟨S16384x256, .f32⟩
  | 7 => ⟨S16384x256, .f32⟩
  | 8 => ⟨S16384x256, .f32⟩
  | 9 => ⟨S16384x256, .f32⟩
  | 10 => ⟨S_, .f32⟩
  | 11 => ⟨S16384x256, .f32⟩
  | 12 => ⟨S16384x256, .f32⟩
  | 13 => ⟨S_, .f32⟩
  | 14 => ⟨S16384x256, .f32⟩
  | 15 => ⟨S16384x256, .f32⟩
  | 16 => ⟨S16384x256, .f32⟩
  | 17 => ⟨S16384x256, .f32⟩
  | 18 => ⟨S16384x256, .f32⟩
  | 19 => ⟨S_, .f32⟩
  | 20 => ⟨S16384x256, .f32⟩
  | 21 => ⟨S16384x256, .f32⟩
  | 22 => ⟨S_, .f32⟩
  | 23 => ⟨S16384x256, .f32⟩
  | 24 => ⟨S16384x256, .f32⟩
  | 25 => ⟨S16384x256, .f32⟩
  | 26 => ⟨S16384x256, .f32⟩
  | 27 => ⟨S16384x256, .f32⟩
  | 28 => ⟨S_, .f32⟩
  | 29 => ⟨S16384x256, .f32⟩
  | 30 => ⟨S16384x256, .f32⟩
  | 31 => ⟨S16384x256, .f32⟩
  | 32 => ⟨S16384x256, .f32⟩
  | 33 => ⟨S16384x256, .f32⟩
  | 34 => ⟨S1x16384x256, .f32⟩
  | 35 => ⟨S_, .i32⟩
  | 36 => ⟨S_, .i32⟩
  | 37 => ⟨S44x16384x256, .f32⟩
  | 38 => ⟨S_, .i32⟩
  | 39 => ⟨S_, .i32⟩
  | 40 => ⟨S14x16384x256, .f32⟩
  | 41 => ⟨S256x4, .f32⟩
  | 42 => ⟨S14x16384x4, .f32⟩
  | 43 => ⟨S1x1x4, .f32⟩
  | 44 => ⟨S14x16384x4, .f32⟩
  | 45 => ⟨S14x16384x4, .f32⟩
  | 46 => ⟨S14x32x512x4, .f32⟩
  | 47 => ⟨S32x14x4x512, .f32⟩
  | 48 => ⟨S32x1x4x512, .f32⟩
  | 49 => ⟨S32x14x4x512, .f32⟩
  | 50 => ⟨S32x14x4x512, .f32⟩
  | 51 => ⟨S32x30x24x512, .f32⟩
  | 52 => ⟨S32x30x1x512, .f32⟩
  | 53 => ⟨S32x30x24x512, .f32⟩
  | 54 => ⟨S32x30x24x512, .f32⟩
  | 55 => ⟨S32x30x1x512, .f32⟩
  | 56 => ⟨S32x30x24x512, .f32⟩
  | 57 => ⟨S32x30x24x512, .f32⟩
  | 58 => ⟨S32x30x24x512, .f32⟩
  | 59 => ⟨S32x30x24x512, .f32⟩
  | 60 => ⟨S32x30x24x512, .f32⟩
  | 61 => ⟨S32x30x1x512, .f32⟩
  | 62 => ⟨S32x30x24x512, .f32⟩
  | 63 => ⟨S32x30x24x512, .f32⟩
  | 64 => ⟨S32x30x24x512, .f32⟩
  | 65 => ⟨S32x30x24x512, .f32⟩
  | 66 => ⟨S32x30x1x512, .f32⟩
  | 67 => ⟨S32x30x24x512, .f32⟩
  | 68 => ⟨S32x30x24x512, .f32⟩
  | 69 => ⟨S32x30x24x512, .f32⟩
  | 70 => ⟨S32x720x512, .f32⟩
  | _ => ⟨S32x720x512, .f32⟩

abbrev hbmTy (i : Nat) : BufTy := match i / 128 with
  | 0 => hbmTy0_0 i
  | 1 => hbmTy0_1 i
  | 2 => hbmTy0_2 i
  | _ => ⟨S32x720x512, .f32⟩

abbrev bufTy : (tb : Table) → Fin (tcTables nBuf tb) → BufTy
  | .hbm, ⟨i, _⟩ => hbmTy i
  | _, _ => ⟨S32x720x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_v0 : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_v9 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_4 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_v18 : Ref sig .tc := ⟨.hbm, 58, rfl⟩
abbrev main_v19 : Ref sig .tc := ⟨.hbm, 59, rfl⟩
abbrev main_cst_5 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_6 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_7 : Ref sig .tc := ⟨.hbm, 70, rfl⟩
abbrev main_v28 : Ref sig .tc := ⟨.hbm, 71, rfl⟩
abbrev main_cst_8 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_9 : Ref sig .tc := ⟨.hbm, 76, rfl⟩
abbrev main_v32 : Ref sig .tc := ⟨.hbm, 77, rfl⟩
abbrev main_v33 : Ref sig .tc := ⟨.hbm, 78, rfl⟩
abbrev main_cst_10 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst_11 : Ref sig .tc := ⟨.hbm, 85, rfl⟩
abbrev main_v39 : Ref sig .tc := ⟨.hbm, 86, rfl⟩
abbrev main_cst_12 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_13 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_14 : Ref sig .tc := ⟨.hbm, 95, rfl⟩
abbrev main_v46 : Ref sig .tc := ⟨.hbm, 96, rfl⟩
abbrev main_v47 : Ref sig .tc := ⟨.hbm, 97, rfl⟩
abbrev main_cst_15 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_16 : Ref sig .tc := ⟨.hbm, 104, rfl⟩
abbrev main_v53 : Ref sig .tc := ⟨.hbm, 105, rfl⟩
abbrev main_cst_17 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_18 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_cst_19 : Ref sig .tc := ⟨.hbm, 114, rfl⟩
abbrev main_v60 : Ref sig .tc := ⟨.hbm, 115, rfl⟩
abbrev main_v61 : Ref sig .tc := ⟨.hbm, 116, rfl⟩
abbrev main_cst_20 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_cst_21 : Ref sig .tc := ⟨.hbm, 123, rfl⟩
abbrev main_v67 : Ref sig .tc := ⟨.hbm, 124, rfl⟩
abbrev main_cst_22 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_cst_23 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_cst_24 : Ref sig .tc := ⟨.hbm, 134, rfl⟩
abbrev main_v75 : Ref sig .tc := ⟨.hbm, 135, rfl⟩
abbrev main_cst_25 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_cst_26 : Ref sig .tc := ⟨.hbm, 141, rfl⟩
abbrev main_v80 : Ref sig .tc := ⟨.hbm, 142, rfl⟩
abbrev main_cst_27 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_cst_28 : Ref sig .tc := ⟨.hbm, 149, rfl⟩
abbrev main_v86 : Ref sig .tc := ⟨.hbm, 150, rfl⟩
abbrev main_cst_29 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_cst_30 : Ref sig .tc := ⟨.hbm, 156, rfl⟩
abbrev main_v91 : Ref sig .tc := ⟨.hbm, 157, rfl⟩
abbrev main_cst_31 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_cst_32 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_cst_33 : Ref sig .tc := ⟨.hbm, 167, rfl⟩
abbrev main_v99 : Ref sig .tc := ⟨.hbm, 168, rfl⟩
abbrev main_cst_34 : Ref sig .tc := ⟨.hbm, 169, rfl⟩
abbrev main_v100 : Ref sig .tc := ⟨.hbm, 170, rfl⟩
abbrev main_v101 : Ref sig .tc := ⟨.hbm, 171, rfl⟩
abbrev main_cst_35 : Ref sig .tc := ⟨.hbm, 172, rfl⟩
abbrev main_v102 : Ref sig .tc := ⟨.hbm, 173, rfl⟩
abbrev main_v103 : Ref sig .tc := ⟨.hbm, 174, rfl⟩
abbrev main_cst_36 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_cst_37 : Ref sig .tc := ⟨.hbm, 181, rfl⟩
abbrev main_v109 : Ref sig .tc := ⟨.hbm, 182, rfl⟩
abbrev main_cst_38 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_cst_39 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_cst_40 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_cst_41 : Ref sig .tc := ⟨.hbm, 226, rfl⟩
abbrev main_v150 : Ref sig .tc := ⟨.hbm, 227, rfl⟩
abbrev main_c_42 : Ref sig .tc := ⟨.hbm, 228, rfl⟩
abbrev main_v151_0 : Ref sig .tc := ⟨.hbm, 229, rfl⟩
abbrev main_v151_1 : Ref sig .tc := ⟨.hbm, 230, rfl⟩
abbrev main_v151_2 : Ref sig .tc := ⟨.hbm, 231, rfl⟩
abbrev main_v151_3 : Ref sig .tc := ⟨.hbm, 232, rfl⟩
abbrev main_v151_4 : Ref sig .tc := ⟨.hbm, 233, rfl⟩
abbrev main_v151_5 : Ref sig .tc := ⟨.hbm, 234, rfl⟩
abbrev main_v151_6 : Ref sig .tc := ⟨.hbm, 235, rfl⟩
abbrev main_v151_7 : Ref sig .tc := ⟨.hbm, 236, rfl⟩
abbrev main_v151_8 : Ref sig .tc := ⟨.hbm, 237, rfl⟩
abbrev main_while0c_c_51 : Ref sig .tc := ⟨.hbm, 238, rfl⟩
abbrev main_while0c_v183 : Ref sig .tc := ⟨.hbm, 239, rfl⟩
abbrev main_while0b_call3_v0 : Ref sig .tc := ⟨.hbm, 240, rfl⟩
abbrev main_while0b_v183 : Ref sig .tc := ⟨.hbm, 241, rfl⟩
abbrev main_while0b_call4_c : Ref sig .tc := ⟨.hbm, 242, rfl⟩
abbrev main_while0b_call4_c_0 : Ref sig .tc := ⟨.hbm, 243, rfl⟩
abbrev main_while0b_call4_v0 : Ref sig .tc := ⟨.hbm, 244, rfl⟩
abbrev main_while0b_v184 : Ref sig .tc := ⟨.hbm, 245, rfl⟩
abbrev main_while0b_c_51 : Ref sig .tc := ⟨.hbm, 246, rfl⟩
abbrev main_while0b_v185 : Ref sig .tc := ⟨.hbm, 247, rfl⟩
abbrev main_while0b_v186 : Ref sig .tc := ⟨.hbm, 248, rfl⟩
abbrev main_while0b_c_52 : Ref sig .tc := ⟨.hbm, 249, rfl⟩
abbrev main_while0b_v187 : Ref sig .tc := ⟨.hbm, 250, rfl⟩
abbrev main_while0b_v188 : Ref sig .tc := ⟨.hbm, 251, rfl⟩
abbrev main_while0b_v189 : Ref sig .tc := ⟨.hbm, 252, rfl⟩
abbrev main_while0b_v190 : Ref sig .tc := ⟨.hbm, 253, rfl⟩
abbrev main_while0b_v191 : Ref sig .tc := ⟨.hbm, 254, rfl⟩
abbrev main_while0b_v192 : Ref sig .tc := ⟨.hbm, 255, rfl⟩
abbrev main_while0b_v193 : Ref sig .tc := ⟨.hbm, 256, rfl⟩
abbrev main_while0b_v194 : Ref sig .tc := ⟨.hbm, 257, rfl⟩
abbrev main_while0b_v195 : Ref sig .tc := ⟨.hbm, 258, rfl⟩
abbrev main_while0b_v196 : Ref sig .tc := ⟨.hbm, 259, rfl⟩
abbrev main_while0b_v197 : Ref sig .tc := ⟨.hbm, 260, rfl⟩
abbrev main_while0b_v198 : Ref sig .tc := ⟨.hbm, 261, rfl⟩
abbrev main_while0b_v199 : Ref sig .tc := ⟨.hbm, 262, rfl⟩
abbrev main_while0b_v200 : Ref sig .tc := ⟨.hbm, 263, rfl⟩
abbrev main_while0b_v201 : Ref sig .tc := ⟨.hbm, 264, rfl⟩
abbrev main_while0b_v202 : Ref sig .tc := ⟨.hbm, 265, rfl⟩
abbrev main_while0b_cst_53 : Ref sig .tc := ⟨.hbm, 266, rfl⟩
abbrev main_while0b_v203 : Ref sig .tc := ⟨.hbm, 267, rfl⟩
abbrev main_while0b_v204 : Ref sig .tc := ⟨.hbm, 268, rfl⟩
abbrev main_while0b_cst_54 : Ref sig .tc := ⟨.hbm, 269, rfl⟩
abbrev main_while0b_v205 : Ref sig .tc := ⟨.hbm, 270, rfl⟩
abbrev main_while0b_v206 : Ref sig .tc := ⟨.hbm, 271, rfl⟩
abbrev main_while0b_v207 : Ref sig .tc := ⟨.hbm, 272, rfl⟩
abbrev main_while0b_v208 : Ref sig .tc := ⟨.hbm, 273, rfl⟩
abbrev main_while0b_v209 : Ref sig .tc := ⟨.hbm, 274, rfl⟩
abbrev main_while0b_cst_55 : Ref sig .tc := ⟨.hbm, 275, rfl⟩
abbrev main_while0b_v210 : Ref sig .tc := ⟨.hbm, 276, rfl⟩
abbrev main_while0b_v211 : Ref sig .tc := ⟨.hbm, 277, rfl⟩
abbrev main_while0b_cst_56 : Ref sig .tc := ⟨.hbm, 278, rfl⟩
abbrev main_while0b_v212 : Ref sig .tc := ⟨.hbm, 279, rfl⟩
abbrev main_while0b_v213 : Ref sig .tc := ⟨.hbm, 280, rfl⟩
abbrev main_while0b_v214 : Ref sig .tc := ⟨.hbm, 281, rfl⟩
abbrev main_while0b_v215 : Ref sig .tc := ⟨.hbm, 282, rfl⟩
abbrev main_while0b_v216 : Ref sig .tc := ⟨.hbm, 283, rfl⟩
abbrev main_while0b_cst_57 : Ref sig .tc := ⟨.hbm, 284, rfl⟩
abbrev main_while0b_v217 : Ref sig .tc := ⟨.hbm, 285, rfl⟩
abbrev main_while0b_v218 : Ref sig .tc := ⟨.hbm, 286, rfl⟩
abbrev main_while0b_v219 : Ref sig .tc := ⟨.hbm, 287, rfl⟩
abbrev main_while0b_v220 : Ref sig .tc := ⟨.hbm, 288, rfl⟩
abbrev main_while0b_v221 : Ref sig .tc := ⟨.hbm, 289, rfl⟩
abbrev main_while0b_call7_v0 : Ref sig .tc := ⟨.hbm, 290, rfl⟩
abbrev main_while0b_call7_c : Ref sig .tc := ⟨.hbm, 291, rfl⟩
abbrev main_while0b_call7_c_0 : Ref sig .tc := ⟨.hbm, 292, rfl⟩
abbrev main_while0b_v222 : Ref sig .tc := ⟨.hbm, 293, rfl⟩
abbrev main_while0b_c_58 : Ref sig .tc := ⟨.hbm, 294, rfl⟩
abbrev main_while0b_v223 : Ref sig .tc := ⟨.hbm, 295, rfl⟩
abbrev main_v152 : Ref sig .tc := ⟨.hbm, 296, rfl⟩
abbrev main_v153 : Ref sig .tc := ⟨.hbm, 297, rfl⟩
abbrev main_v154 : Ref sig .tc := ⟨.hbm, 298, rfl⟩
abbrev main_v155 : Ref sig .tc := ⟨.hbm, 299, rfl⟩
abbrev main_v156 : Ref sig .tc := ⟨.hbm, 300, rfl⟩
abbrev main_v157 : Ref sig .tc := ⟨.hbm, 301, rfl⟩
abbrev main_v158 : Ref sig .tc := ⟨.hbm, 302, rfl⟩
abbrev main_v159 : Ref sig .tc := ⟨.hbm, 303, rfl⟩
abbrev main_v160 : Ref sig .tc := ⟨.hbm, 304, rfl⟩
abbrev main_v161 : Ref sig .tc := ⟨.hbm, 305, rfl⟩
abbrev main_v162 : Ref sig .tc := ⟨.hbm, 306, rfl⟩
abbrev main_v163 : Ref sig .tc := ⟨.hbm, 307, rfl⟩
abbrev main_v164 : Ref sig .tc := ⟨.hbm, 308, rfl⟩
abbrev main_v165 : Ref sig .tc := ⟨.hbm, 309, rfl⟩
abbrev main_v166 : Ref sig .tc := ⟨.hbm, 310, rfl⟩
abbrev main_v167 : Ref sig .tc := ⟨.hbm, 311, rfl⟩
abbrev main_v168 : Ref sig .tc := ⟨.hbm, 312, rfl⟩
abbrev main_v169 : Ref sig .tc := ⟨.hbm, 313, rfl⟩
abbrev main_v170 : Ref sig .tc := ⟨.hbm, 314, rfl⟩
abbrev main_v171 : Ref sig .tc := ⟨.hbm, 315, rfl⟩
abbrev main_v172 : Ref sig .tc := ⟨.hbm, 316, rfl⟩
abbrev main_v173 : Ref sig .tc := ⟨.hbm, 317, rfl⟩
abbrev main_v174 : Ref sig .tc := ⟨.hbm, 318, rfl⟩
abbrev main_v175 : Ref sig .tc := ⟨.hbm, 319, rfl⟩
abbrev main_v176 : Ref sig .tc := ⟨.hbm, 320, rfl⟩
abbrev main_v177 : Ref sig .tc := ⟨.hbm, 321, rfl⟩
abbrev main_v178 : Ref sig .tc := ⟨.hbm, 322, rfl⟩
abbrev main_v179 : Ref sig .tc := ⟨.hbm, 323, rfl⟩
abbrev main_v180 : Ref sig .tc := ⟨.hbm, 324, rfl⟩
abbrev main_v181 : Ref sig .tc := ⟨.hbm, 325, rfl⟩
abbrev main_v182 : Ref sig .tc := ⟨.hbm, 326, rfl⟩

abbrev nD : Nat := 1
abbrev τ : Topo := Topo.v7x

variable {F : FTy → Type} [FloatOps F]

abbrev main_while0_count : Scf.Loop 32 := ⟨0#32, 44#32, 1#32⟩
-- ==== Proof.KChain.lean ====
/-
  What one grid point of the kernel stores, as a function of the twelve blocks it loads: the normalised rows `xnormBlk`
  and the block `predBlk` of fourteen predicted rows, whose recurrence is written once per step (`encStep`, `decStep`)
  and iterated. The two theorems at the end say that the run's two stored pieces are these values.
-/
module

public import proofs.«01_k».proof.Proof.Gen.KernelIdeal.Run
public import Idealize.ShloMosaic.Lib.Pipeline.Value

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL.Sem

variable {F : FTy → Type} [FloatOps F] [Named F]

/-! ## The bands, the statistics and the normalised rows -/

/-- The normalised rows of one block: the low band scored by its patch's mean and deviation, plus the high band, plus
    each middle band over its patch's deviation. -/
def xnormBlk (x : Vec F S2x720x512 .f32) : FVec F S2x720x512 .f32 :=
  k0_pay26 (k0_pay4 x) (k0_pay5 x) (k0_pay6 x) (k0_pay7 x) (k0_pay9 x) (k0_pay10 x) (k0_pay13 (k0_pay6 x))
    (k0_pay16 (k0_pay7 x))

/-- The share of the high band in the patch's energy. -/
def rhoBlk (x : Vec F S2x720x512 .f32) : FVec F S2x30x512 .f32 :=
  k0_pay20 (k0_pay14 (k0_pay6 x)) (k0_pay17 (k0_pay7 x)) (k0_pay18 (k0_pay5 x))
    (k0_pay19 (k0_pay5 x) (k0_pay11 x) (Scalar.ofBits .f32 0x41C00000#32))

/-- The seven features of each patch, the block's columns side by side on the lanes. -/
def featBlk (x : Vec F S2x720x512 .f32) : FVec F S30x7x1024 .f32 :=
  k0_pay30 (rhoBlk x) (k0_pay21 (k0_pay4 x)) (k0_pay22 (k0_pay4 x)) (k0_pay23 (k0_pay10 x))
    (k0_pay24 (k0_pay13 (k0_pay6 x))) (k0_pay25 (k0_pay16 (k0_pay7 x))) (k0_pay27 (F := F)) (k0_pay28 (k0_pay9 x))
    (k0_pay29 (k0_pay10 x))

/-- The last patch's first four features. -/
def lastBlk (x : Vec F S2x720x512 .f32) : FVec F S4x1024 .f32 :=
  k0_pay36 (k0_pay31 (k0_pay9 x)) (k0_pay32 (k0_pay23 (k0_pay10 x))) (k0_pay33 (k0_pay24 (k0_pay13 (k0_pay6 x))))
    (k0_pay34 (k0_pay25 (k0_pay16 (k0_pay7 x)))) (k0_pay35 (k0_pay25 (k0_pay16 (k0_pay7 x))))

/-! ## The recurrence -/

/-- The gates' pre-activations from the hidden state. -/
def hidGates (W : FVec F S768x256 .bf16) (b : FVec F S768x1 .f32) (h : FVec F S256x1024 .f32) : FVec F S768x1024 .f32 :=
  addf (matmul dot_S768x256_S256x1024_S768x1024_1_0_0_1_n_n none W (truncf .bf16 h bitsLt_bf16_f32)
    (constant S768x1024 .f32 0x00000000#32)) (broadcastTo S768x1024 b broadcasts_S768x1_S768x1024)

/-- A patch of the features fits in them. -/
theorem slices_patch : ∀ t : Fin 30, S30x7x1024.Slices ![t.val, 0, 0] S1x7x1024 := by decide

/-- The gates' pre-activations from patch `t`'s features. -/
def encGates (W : FVec F S768x7 .bf16) (b : FVec F S768x1 .f32) (xs : FVec F S30x7x1024 .bf16) (t : Fin 30) :
    FVec F S768x1024 .f32 :=
  addf (matmul dot_S768x7_S7x1024_S768x1024_1_0_0_1_n_n none W
      (shapeCast S7x1024 (extractStridedSlice S1x7x1024 ![t.val, 0, 0] xs (slices_patch t)) shapeCasts_S1x7x1024_S7x1024)
      (constant S768x1024 .f32 0x00000000#32))
    (broadcastTo S768x1024 b broadcasts_S768x1_S768x1024)

/-- One step of the recurrence from the input's three gates and the hidden state's. -/
def gate (ir iz ig : FVec F S256x1024 .f32) (gh : FVec F S768x1024 .f32) (h : FVec F S256x1024 .f32) :
    FVec F S256x1024 .f32 :=
  addf
    (mulf
      (subf (broadcast S256x1024 (Scalar.ofBits .f32 0x3F800000#32))
        (logistic (addf iz (extractStridedSlice S256x1024 ![256, 0] gh slices_S768x1024_o256_0_S256x1024))))
      (tanh (addf ig
        (mulf (logistic (addf ir (extractStridedSlice S256x1024 ![0, 0] gh slices_S768x1024_o0_0_S256x1024)))
          (extractStridedSlice S256x1024 ![512, 0] gh slices_S768x1024_o512_0_S256x1024)))))
    (mulf (logistic (addf iz (extractStridedSlice S256x1024 ![256, 0] gh slices_S768x1024_o256_0_S256x1024))) h)

/-- One step of the history's recurrence. -/
def encStep (W : FVec F S768x256 .bf16) (b : FVec F S768x1 .f32) (gi : FVec F S768x1024 .f32)
    (h : FVec F S256x1024 .f32) : FVec F S256x1024 .f32 :=
  gate (extractStridedSlice S256x1024 ![0, 0] gi slices_S768x1024_o0_0_S256x1024)
    (extractStridedSlice S256x1024 ![256, 0] gi slices_S768x1024_o256_0_S256x1024)
    (extractStridedSlice S256x1024 ![512, 0] gi slices_S768x1024_o512_0_S256x1024) (hidGates W b h) h

/-- The hidden state after `t` patches of the history. -/
def encH (Wi : FVec F S768x7 .bf16) (W : FVec F S768x256 .bf16) (bi b : FVec F S768x1 .f32)
    (xs : FVec F S30x7x1024 .bf16) (t : ℕ) : FVec F S256x1024 .f32 :=
  Nat.rec (broadcast S256x1024 (Scalar.ofBits .f32 0x00000000#32))
    (fun t h => encStep W b (encGates Wi bi xs (Fin.ofNat 30 t)) h) t

/-- A column of the future's gates fits in them. -/
theorem slices_col : ∀ t : Fin 14, S768x14.Slices ![0, t.val] S768x1 := by decide

/-- One step of the future's recurrence: the input's gates are one column, the same on every lane. -/
def decStep (W : FVec F S768x256 .bf16) (b : FVec F S768x1 .f32) (g : FVec F S768x1 .f32)
    (h : FVec F S256x1024 .f32) : FVec F S256x1024 .f32 :=
  gate (broadcastTo S256x1024 (extractStridedSlice S256x1 ![0, 0] g slices_S768x1_o0_0_S256x1) broadcasts_S256x1_S256x1024)
    (broadcastTo S256x1024 (extractStridedSlice S256x1 ![256, 0] g slices_S768x1_o256_0_S256x1) broadcasts_S256x1_S256x1024)
    (broadcastTo S256x1024 (extractStridedSlice S256x1 ![512, 0] g slices_S768x1_o512_0_S256x1) broadcasts_S256x1_S256x1024)
    (hidGates W b h) h

/-- The hidden state after `t` steps of the future, from the history's last. -/
def decH (W : FVec F S768x256 .bf16) (b : FVec F S768x1 .f32) (gi : FVec F S768x14 .f32) (h0 : FVec F S256x1024 .f32)
    (t : ℕ) : FVec F S256x1024 .f32 :=
  Nat.rec h0
    (fun t h => decStep W b (extractStridedSlice S768x1 ![0, (Fin.ofNat 14 t).val] gi (slices_col (Fin.ofNat 14 t))) h) t

/-- One predicted row: the head at a hidden state, on top of the last patch's statistics. -/
def predRow (hW : Vec F S4x256 .f32) (hb : FVec F S4x1 .f32) (last : FVec F S4x1024 .f32) (h : FVec F S256x1024 .f32) :
    FVec F S4x1024 .f32 :=
  addf (addf (matmul dot_S4x256_S256x1024_S4x1024_1_0_0_1_n_n none hW h (constant S4x1024 .f32 0x00000000#32))
    (broadcastTo S4x1024 hb broadcasts_S4x1_S4x1024)) last

/-- The fourteen rows, one under the other. -/
def rows14 (r : ℕ → FVec F S4x1024 .f32) : FVec F S56x1024 .f32 :=
  k0_pay1 (r 1) (r 2) (r 3) (r 4) (r 5) (r 6) (r 7) (r 8) (r 9) (r 10) (r 11) (r 12) (r 13) (r 14)

/-- The hidden state at the end of the history. -/
def encEnd (x : Vec F S2x720x512 .f32) (x1 : Vec F S768x7 .f32) (x2 : Vec F S768x256 .f32) (x3 x4 : Vec F S768x1 .f32) :
    FVec F S256x1024 .f32 :=
  encH (k0_pay37 x1) (k0_pay38 x2) (k0_pay39 x3) (k0_pay40 x4) (k0_pay41 (featBlk x)) 30

/-- The predicted rows of one block. -/
def predBlk (x : Vec F S2x720x512 .f32) (x1 : Vec F S768x7 .f32) (x2 : Vec F S768x256 .f32) (x3 x4 : Vec F S768x1 .f32)
    (x5 : Vec F S768x16 .f32) (x6 : Vec F S768x256 .f32) (x7 x8 : Vec F S768x1 .f32) (x9 : Vec F S16x14 .f32)
    (x10 : Vec F S4x256 .f32) (x11 : Vec F S4x1 .f32) : FVec F S56x1024 .f32 :=
  rows14 fun t => predRow x10 (k0_pay91 x11) (lastBlk x)
    (decH (k0_pay88 x6) (k0_pay89 x8) (k0_pay90 x5 x9 x7) (encEnd x x1 x2 x3 x4) t)

/-! ## The stored pieces -/

/-- The first output's one piece: the normalised rows of the loaded block. -/
theorem piece0 (c : Dev nD) (i : grid0.Coords) (arg1 : Memref sig .tc .vmem S2x720x512 .f32) (harg1 : arg1.IsWhole) (arg2 : Memref sig .tc .vmem S768x7 .f32) (harg2 : arg2.IsWhole) (arg3 : Memref sig .tc .vmem S768x256 .f32) (harg3 : arg3.IsWhole) (arg4 : Memref sig .tc .vmem S768x1 .f32) (harg4 : arg4.IsWhole) (arg5 : Memref sig .tc .vmem S768x1 .f32) (harg5 : arg5.IsWhole) (arg6 : Memref sig .tc .vmem S768x16 .f32) (harg6 : arg6.IsWhole) (arg7 : Memref sig .tc .vmem S768x256 .f32) (harg7 : arg7.IsWhole) (arg8 : Memref sig .tc .vmem S768x1 .f32) (harg8 : arg8.IsWhole) (arg9 : Memref sig .tc .vmem S768x1 .f32) (harg9 : arg9.IsWhole) (arg10 : Memref sig .tc .vmem S16x14 .f32) (harg10 : arg10.IsWhole) (arg11 : Memref sig .tc .vmem S4x256 .f32) (harg11 : arg11.IsWhole) (arg12 : Memref sig .tc .vmem S4x1 .f32) (harg12 : arg12.IsWhole) (arg13 : Memref sig .tc .vmem S2x720x512 .f32) (harg13 : arg13.IsWhole) (arg14 : Memref sig .tc .vmem S56x1024 .f32) (harg14 : arg14.IsWhole) (arg15 : Memref sig .tc .vmem S8x128 .f32) (harg15 : arg15.IsWhole)
    (x0 : Vec F S2x720x512 .f32) (x1 : Vec F S768x7 .f32) (x2 : Vec F S768x256 .f32) (x3 : Vec F S768x1 .f32) (x4 : Vec F S768x1 .f32) (x5 : Vec F S768x16 .f32) (x6 : Vec F S768x256 .f32) (x7 : Vec F S768x1 .f32) (x8 : Vec F S768x1 .f32) (x9 : Vec F S16x14 .f32) (x10 : Vec F S4x256 .f32) (x11 : Vec F S4x1 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11).1
      = [⟨Rect.unit ![0, 0, 0] S2x720x512.size inb_S2x720x512_S2x720x512_0_0_0, xnormBlk (View.readAt (Elt F) arg1.view (Rect.unit ![0, 0, 0] S2x720x512.size inb_S2x720x512_S2x720x512_0_0_0).toLoadRect (harg1.unread x0))⟩] := by
  sl_kernel_rfl

/-- The second output's one piece: the predicted rows from the loaded blocks. -/
theorem piece1 (c : Dev nD) (i : grid0.Coords) (arg1 : Memref sig .tc .vmem S2x720x512 .f32) (harg1 : arg1.IsWhole) (arg2 : Memref sig .tc .vmem S768x7 .f32) (harg2 : arg2.IsWhole) (arg3 : Memref sig .tc .vmem S768x256 .f32) (harg3 : arg3.IsWhole) (arg4 : Memref sig .tc .vmem S768x1 .f32) (harg4 : arg4.IsWhole) (arg5 : Memref sig .tc .vmem S768x1 .f32) (harg5 : arg5.IsWhole) (arg6 : Memref sig .tc .vmem S768x16 .f32) (harg6 : arg6.IsWhole) (arg7 : Memref sig .tc .vmem S768x256 .f32) (harg7 : arg7.IsWhole) (arg8 : Memref sig .tc .vmem S768x1 .f32) (harg8 : arg8.IsWhole) (arg9 : Memref sig .tc .vmem S768x1 .f32) (harg9 : arg9.IsWhole) (arg10 : Memref sig .tc .vmem S16x14 .f32) (harg10 : arg10.IsWhole) (arg11 : Memref sig .tc .vmem S4x256 .f32) (harg11 : arg11.IsWhole) (arg12 : Memref sig .tc .vmem S4x1 .f32) (harg12 : arg12.IsWhole) (arg13 : Memref sig .tc .vmem S2x720x512 .f32) (harg13 : arg13.IsWhole) (arg14 : Memref sig .tc .vmem S56x1024 .f32) (harg14 : arg14.IsWhole) (arg15 : Memref sig .tc .vmem S8x128 .f32) (harg15 : arg15.IsWhole)
    (x0 : Vec F S2x720x512 .f32) (x1 : Vec F S768x7 .f32) (x2 : Vec F S768x256 .f32) (x3 : Vec F S768x1 .f32) (x4 : Vec F S768x1 .f32) (x5 : Vec F S768x16 .f32) (x6 : Vec F S768x256 .f32) (x7 : Vec F S768x1 .f32) (x8 : Vec F S768x1 .f32) (x9 : Vec F S16x14 .f32) (x10 : Vec F S4x256 .f32) (x11 : Vec F S4x1 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11).2.1
      = [⟨Rect.unit ![0, 0] S56x1024.size inb_S56x1024_S56x1024_0_0, predBlk (View.readAt (Elt F) arg1.view (Rect.unit ![0, 0, 0] S2x720x512.size inb_S2x720x512_S2x720x512_0_0_0).toLoadRect (harg1.unread x0)) (View.readAt (Elt F) arg2.view (Rect.unit ![0, 0] S768x7.size inb_S768x7_S768x7_0_0).toLoadRect (harg2.unread x1)) (View.readAt (Elt F) arg3.view (Rect.unit ![0, 0] S768x256.size inb_S768x256_S768x256_0_0).toLoadRect (harg3.unread x2)) (View.readAt (Elt F) arg4.view (Rect.unit ![0, 0] S768x1.size inb_S768x1_S768x1_0_0).toLoadRect (harg4.unread x3)) (View.readAt (Elt F) arg5.view (Rect.unit ![0, 0] S768x1.size inb_S768x1_S768x1_0_0).toLoadRect (harg5.unread x4)) (View.readAt (Elt F) arg6.view (Rect.unit ![0, 0] S768x16.size inb_S768x16_S768x16_0_0).toLoadRect (harg6.unread x5)) (View.readAt (Elt F) arg7.view (Rect.unit ![0, 0] S768x256.size inb_S768x256_S768x256_0_0).toLoadRect (harg7.unread x6)) (View.readAt (Elt F) arg8.view (Rect.unit ![0, 0] S768x1.size inb_S768x1_S768x1_0_0).toLoadRect (harg8.unread x7)) (View.readAt (Elt F) arg9.view (Rect.unit ![0, 0] S768x1.size inb_S768x1_S768x1_0_0).toLoadRect (harg9.unread x8)) (View.readAt (Elt F) arg10.view (Rect.unit ![0, 0] S16x14.size inb_S16x14_S16x14_0_0).toLoadRect (harg10.unread x9)) (View.readAt (Elt F) arg11.view (Rect.unit ![0, 0] S4x256.size inb_S4x256_S4x256_0_0).toLoadRect (harg11.unread x10)) (View.readAt (Elt F) arg12.view (Rect.unit ![0, 0] S4x1.size inb_S4x1_S4x1_0_0).toLoadRect (harg12.unread x11))⟩] := by
  sl_kernel_rfl

/-- Offset zero on every axis, rank 3. -/
theorem off3 : (![0, 0, 0] : Fin 3 → ℕ) = fun _ => 0 := by decide
/-- Offset zero on every axis, rank 2. -/
theorem off2 : (![0, 0] : Fin 2 → ℕ) = fun _ => 0 := by decide

/-- What a grid point leaves in the first output's block. -/
theorem out0 (c : Dev nD) (i : grid0.Coords) (arg1 : Memref sig .tc .vmem S2x720x512 .f32) (harg1 : arg1.IsWhole) (arg2 : Memref sig .tc .vmem S768x7 .f32) (harg2 : arg2.IsWhole) (arg3 : Memref sig .tc .vmem S768x256 .f32) (harg3 : arg3.IsWhole) (arg4 : Memref sig .tc .vmem S768x1 .f32) (harg4 : arg4.IsWhole) (arg5 : Memref sig .tc .vmem S768x1 .f32) (harg5 : arg5.IsWhole) (arg6 : Memref sig .tc .vmem S768x16 .f32) (harg6 : arg6.IsWhole) (arg7 : Memref sig .tc .vmem S768x256 .f32) (harg7 : arg7.IsWhole) (arg8 : Memref sig .tc .vmem S768x1 .f32) (harg8 : arg8.IsWhole) (arg9 : Memref sig .tc .vmem S768x1 .f32) (harg9 : arg9.IsWhole) (arg10 : Memref sig .tc .vmem S16x14 .f32) (harg10 : arg10.IsWhole) (arg11 : Memref sig .tc .vmem S4x256 .f32) (harg11 : arg11.IsWhole) (arg12 : Memref sig .tc .vmem S4x1 .f32) (harg12 : arg12.IsWhole) (arg13 : Memref sig .tc .vmem S2x720x512 .f32) (harg13 : arg13.IsWhole) (arg14 : Memref sig .tc .vmem S56x1024 .f32) (harg14 : arg14.IsWhole) (arg15 : Memref sig .tc .vmem S8x128 .f32) (harg15 : arg15.IsWhole)
    (x0 : Vec F S2x720x512 .f32) (x1 : Vec F S768x7 .f32) (x2 : Vec F S768x256 .f32) (x3 : Vec F S768x1 .f32) (x4 : Vec F S768x1 .f32) (x5 : Vec F S768x16 .f32) (x6 : Vec F S768x256 .f32) (x7 : Vec F S768x1 .f32) (x8 : Vec F S768x1 .f32) (x9 : Vec F S16x14 .f32) (x10 : Vec F S4x256 .f32) (x11 : Vec F S4x1 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = xnormBlk x0 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11), piece0, View.canon_unit_zero off3]
  simp only [View.readAt_eq_ld, harg1.read_unread, View.ld_unit_zero (S := S2x720x512) off3]

/-- What a grid point leaves in the second output's block. -/
theorem out1 (c : Dev nD) (i : grid0.Coords) (arg1 : Memref sig .tc .vmem S2x720x512 .f32) (harg1 : arg1.IsWhole) (arg2 : Memref sig .tc .vmem S768x7 .f32) (harg2 : arg2.IsWhole) (arg3 : Memref sig .tc .vmem S768x256 .f32) (harg3 : arg3.IsWhole) (arg4 : Memref sig .tc .vmem S768x1 .f32) (harg4 : arg4.IsWhole) (arg5 : Memref sig .tc .vmem S768x1 .f32) (harg5 : arg5.IsWhole) (arg6 : Memref sig .tc .vmem S768x16 .f32) (harg6 : arg6.IsWhole) (arg7 : Memref sig .tc .vmem S768x256 .f32) (harg7 : arg7.IsWhole) (arg8 : Memref sig .tc .vmem S768x1 .f32) (harg8 : arg8.IsWhole) (arg9 : Memref sig .tc .vmem S768x1 .f32) (harg9 : arg9.IsWhole) (arg10 : Memref sig .tc .vmem S16x14 .f32) (harg10 : arg10.IsWhole) (arg11 : Memref sig .tc .vmem S4x256 .f32) (harg11 : arg11.IsWhole) (arg12 : Memref sig .tc .vmem S4x1 .f32) (harg12 : arg12.IsWhole) (arg13 : Memref sig .tc .vmem S2x720x512 .f32) (harg13 : arg13.IsWhole) (arg14 : Memref sig .tc .vmem S56x1024 .f32) (harg14 : arg14.IsWhole) (arg15 : Memref sig .tc .vmem S8x128 .f32) (harg15 : arg15.IsWhole)
    (x0 : Vec F S2x720x512 .f32) (x1 : Vec F S768x7 .f32) (x2 : Vec F S768x256 .f32) (x3 : Vec F S768x1 .f32) (x4 : Vec F S768x1 .f32) (x5 : Vec F S768x16 .f32) (x6 : Vec F S768x256 .f32) (x7 : Vec F S768x1 .f32) (x8 : Vec F S768x1 .f32) (x9 : Vec F S16x14 .f32) (x10 : Vec F S4x256 .f32) (x11 : Vec F S4x1 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = predBlk x0 x1 x2 x3 x4 x5 x6 x7 x8 x9 x10 x11 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11), piece1, View.canon_unit_zero off2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2x720x512) off3, View.ld_unit_zero (S := S768x7) off2, View.ld_unit_zero (S := S768x256) off2, View.ld_unit_zero (S := S768x1) off2, View.ld_unit_zero (S := S768x16) off2, View.ld_unit_zero (S := S16x14) off2, View.ld_unit_zero (S := S4x256) off2, View.ld_unit_zero (S := S4x1) off2]

end Cert.Proof.K

end
-- ==== Proof.KArr.lean ====
/-
  The kernel's two result arrays after the run, as functions of the blocks its grid points load.
-/
module

public import proofs.«01_k».proof.Proof.KChain
public import Idealize.ShloMosaic.Lib.Pointwise
public import Idealize.ShloMosaic.Lib.StableHlo.RunRead

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL.Sem

variable {F : FTy → Type} [FloatOps F] [Named F]
variable (m : (ℓ : Loc nD τ sig) → Buf (Elt F) ℓ)

/-- The two rows of the signal that grid point `i` loads. -/
def rowsAt (X : Vec F S32x720x512 .f32) (i : ℕ) : Vec F S2x720x512 .f32 :=
  fun j => X (ix3 (Fin.ofNat 32 (2 * i + (j 0).val)) (j 1) (j 2))

/-- Where each window's block lies in its array, at every grid point. -/
theorem where0 : ∀ t : Fin grid0.N, win0_0.index t 0 * win0_0.size 0 = 2 * t.val ∧ win0_0.index t 1 * win0_0.size 1 = 0
    ∧ win0_0.index t 2 * win0_0.size 2 = 0 := by decide +kernel

/-- Grid point `t`'s block of the signal is its two rows. -/
theorem iblk0 (c : Dev nD) (t : Fin cfg0.N) : iblk m c 0 t = rowsAt (V m c main_arg0) t.val := by
  funext j
  have e := where0 t
  have h0 : (j 0).val < 2 := (j 0).isLt
  have ht : t.val < 16 := lt_of_lt_of_eq t.isLt N_0
  show V m c main_arg0 (((win0_0).blk t).view.emb j) = V m c main_arg0 (ix3 (Fin.ofNat 32 (2 * t.val + (j 0).val)) (j 1) (j 2))
  refine congrArg _ (funext fun a => Fin.ext ?_)
  match a with
  | ⟨0, _⟩ =>
    show win0_0.index t 0 * win0_0.size 0 + 1 * (j 0).val = (2 * t.val + (j 0).val) % 32
    rw [e.1]; omega
  | ⟨1, _⟩ =>
    show win0_0.index t 1 * win0_0.size 1 + 1 * (j 1).val = (j 1).val
    rw [e.2.1]; omega
  | ⟨2, _⟩ =>
    show win0_0.index t 2 * win0_0.size 2 + 1 * (j 2).val = (j 2).val
    rw [e.2.2]; omega

/-- A block index of zero places every entry where it is. -/
theorem place_zero {n s v : ℕ} (h : n = 0) : n * s + 1 * v = v := by rw [h]; omega

/-- An array read at each place is the array. -/
theorem read_whole {n k : ℕ} {α : Type} (A : (⟨2, ![n, k]⟩ : Shape).Idx → α) (g : (⟨2, ![n, k]⟩ : Shape).Idx → (⟨2, ![n, k]⟩ : Shape).Idx)
    (h0 : ∀ j, (g j 0).val = (j 0).val) (h1 : ∀ j, (g j 1).val = (j 1).val) : (fun j => A (g j)) = A :=
  funext fun j => congrArg A (funext fun a => Fin.ext (match a with | ⟨0, _⟩ => h0 j | ⟨1, _⟩ => h1 j))

/-- Every other window loads its whole array at every grid point. -/
theorem iblks (c : Dev nD) (t : Fin cfg0.N) :
    iblk m c 1 t = V m c main_arg1
    ∧ iblk m c 2 t = V m c main_arg2
    ∧ iblk m c 3 t = V m c main_v0
    ∧ iblk m c 4 t = V m c main_v1
    ∧ iblk m c 5 t = V m c main_arg5
    ∧ iblk m c 6 t = V m c main_arg6
    ∧ iblk m c 7 t = V m c main_v2
    ∧ iblk m c 8 t = V m c main_v3
    ∧ iblk m c 9 t = V m c main_v4
    ∧ iblk m c 10 t = V m c main_arg10
    ∧ iblk m c 11 t = V m c main_v5 :=
  ⟨read_whole (V m c main_arg1) _ (fun _ => place_zero rfl) (fun _ => place_zero rfl),
    read_whole (V m c main_arg2) _ (fun _ => place_zero rfl) (fun _ => place_zero rfl),
    read_whole (V m c main_v0) _ (fun _ => place_zero rfl) (fun _ => place_zero rfl),
    read_whole (V m c main_v1) _ (fun _ => place_zero rfl) (fun _ => place_zero rfl),
    read_whole (V m c main_arg5) _ (fun _ => place_zero rfl) (fun _ => place_zero rfl),
    read_whole (V m c main_arg6) _ (fun _ => place_zero rfl) (fun _ => place_zero rfl),
    read_whole (V m c main_v2) _ (fun _ => place_zero rfl) (fun _ => place_zero rfl),
    read_whole (V m c main_v3) _ (fun _ => place_zero rfl) (fun _ => place_zero rfl),
    read_whole (V m c main_v4) _ (fun _ => place_zero rfl) (fun _ => place_zero rfl),
    read_whole (V m c main_arg10) _ (fun _ => place_zero rfl) (fun _ => place_zero rfl),
    read_whole (V m c main_v5) _ (fun _ => place_zero rfl) (fun _ => place_zero rfl)⟩

/-- The normalised signal, whole: each row read off the block of its grid point. -/
def xnormArr (X : Vec F S32x720x512 .f32) : Vec F S32x720x512 .f32 :=
  fun y => xnormBlk (rowsAt X ((y 0).val / 2)) (ix3 (Fin.ofNat 2 ((y 0).val % 2)) (y 1) (y 2))

/-- The predictions, whole: each lane read off the block of its grid point. -/
def predArr (X : Vec F S32x720x512 .f32) (x1 : Vec F S768x7 .f32) (x2 : Vec F S768x256 .f32) (x3 x4 : Vec F S768x1 .f32)
    (x5 : Vec F S768x16 .f32) (x6 : Vec F S768x256 .f32) (x7 x8 : Vec F S768x1 .f32) (x9 : Vec F S16x14 .f32)
    (x10 : Vec F S4x256 .f32) (x11 : Vec F S4x1 .f32) : Vec F S56x16384 .f32 :=
  fun y => predBlk (rowsAt X ((y 1).val / 1024)) x1 x2 x3 x4 x5 x6 x7 x8 x9 x10 x11 (ix2 (y 0) (Fin.ofNat 1024 ((y 1).val % 1024)))

/-- Where the blocks of the first result lie. -/
theorem where12 : ∀ t : Fin grid0.N, win0_12.index t 0 * win0_12.size 0 = 2 * t.val ∧ win0_12.index t 1 * win0_12.size 1 = 0
    ∧ win0_12.index t 2 * win0_12.size 2 = 0 := by decide +kernel

/-- Where the blocks of the second result lie. -/
theorem where13 : ∀ t : Fin grid0.N, win0_13.index t 0 * win0_13.size 0 = 0 ∧ win0_13.index t 1 * win0_13.size 1 = 1024 * t.val := by
  decide +kernel

/-- The sizes of the blocks of the first result. -/
theorem ext12 : ∀ t : Fin grid0.N, win0_12.xsize (grid0.coords t) 0 = 2 ∧ win0_12.xsize (grid0.coords t) 1 = 720
    ∧ win0_12.xsize (grid0.coords t) 2 = 512 := by decide +kernel

/-- The sizes of the blocks of the second result. -/
theorem ext13 : ∀ t : Fin grid0.N, win0_13.xsize (grid0.coords t) 0 = 56 ∧ win0_13.xsize (grid0.coords t) 1 = 1024 := by
  decide +kernel

/-- What grid point `t` writes back of the first result is its block of the whole. -/
theorem flushed12 (c : Dev nD) (t : Fin cfg0.N) :
    (dats m 0 c).flushed 12 t = ((cfg0.win 12).blk t).view.read (Elt F) (xnormArr (V m c main_arg0)) := by
  show (cfg0.win 12).cut (grid0.coords t) ((dats m 0 c).after 12 t) = _
  rw [after0_12]
  unfold outsAt0
  dsimp only
  rw [out0, iblk0]
  funext j
  have e := where12 t
  have h0 : (j 0).val < 2 := lt_of_lt_of_eq (j 0).isLt (ext12 t).1
  have ht : t.val < 16 := lt_of_lt_of_eq t.isLt N_0
  show xnormBlk (rowsAt (V m c main_arg0) t.val) ((cfg0.win 12).xinj (grid0.coords t) j) = xnormArr (V m c main_arg0) ((win0_12.blk t).view.emb j)
  have p0 : (((win0_12.blk t).view.emb j) 0).val = 2 * t.val + (j 0).val := by
    show win0_12.index t 0 * win0_12.size 0 + 1 * (j 0).val = _
    rw [e.1]; omega
  have p1 : (((win0_12.blk t).view.emb j) 1).val = (j 1).val := by
    show win0_12.index t 1 * win0_12.size 1 + 1 * (j 1).val = _
    rw [e.2.1]; omega
  have p2 : (((win0_12.blk t).view.emb j) 2).val = (j 2).val := by
    show win0_12.index t 2 * win0_12.size 2 + 1 * (j 2).val = _
    rw [e.2.2]; omega
  unfold xnormArr
  rw [show (((win0_12.blk t).view.emb j) 0).val / 2 = t.val by omega]
  refine congrArg _ (funext fun a => Fin.ext ?_)
  match a with
  | ⟨0, _⟩ =>
    show (j 0).val = (((win0_12.blk t).view.emb j) 0).val % 2 % 2
    omega
  | ⟨1, _⟩ => exact p1.symm
  | ⟨2, _⟩ => exact p2.symm

/-- What grid point `t` writes back of the second result is its block of the whole. -/
theorem flushed13 (c : Dev nD) (t : Fin cfg0.N) :
    (dats m 0 c).flushed 13 t = ((cfg0.win 13).blk t).view.read (Elt F) (predArr (V m c main_arg0) (V m c main_arg1) (V m c main_arg2)
      (V m c main_v0) (V m c main_v1) (V m c main_arg5) (V m c main_arg6) (V m c main_v2) (V m c main_v3) (V m c main_v4)
      (V m c main_arg10) (V m c main_v5)) := by
  show (cfg0.win 13).cut (grid0.coords t) ((dats m 0 c).after 13 t) = _
  rw [after0_13]
  unfold outsAt0
  dsimp only
  obtain ⟨w1, w2, w3, w4, w5, w6, w7, w8, w9, w10, w11⟩ := iblks m c t
  rw [out1, iblk0, w1, w2, w3, w4, w5, w6, w7, w8, w9, w10, w11]
  funext j
  have e := where13 t
  have h1 : (j 1).val < 1024 := lt_of_lt_of_eq (j 1).isLt (ext13 t).2
  have ht : t.val < 16 := lt_of_lt_of_eq t.isLt N_0
  have p0 : (((win0_13.blk t).view.emb j) 0).val = (j 0).val := by
    show win0_13.index t 0 * win0_13.size 0 + 1 * (j 0).val = _
    rw [e.1]; omega
  have p1 : (((win0_13.blk t).view.emb j) 1).val = 1024 * t.val + (j 1).val := by
    show win0_13.index t 1 * win0_13.size 1 + 1 * (j 1).val = _
    rw [e.2]; omega
  show predBlk (rowsAt (V m c main_arg0) t.val) _ _ _ _ _ _ _ _ _ _ _ ((cfg0.win 13).xinj (grid0.coords t) j)
    = predArr _ _ _ _ _ _ _ _ _ _ _ _ ((win0_13.blk t).view.emb j)
  unfold predArr
  rw [show (((win0_13.blk t).view.emb j) 1).val / 1024 = t.val by omega]
  refine congrArg _ (funext fun a => Fin.ext ?_)
  match a with
  | ⟨0, _⟩ => exact p0.symm
  | ⟨1, _⟩ =>
    show (j 1).val = (((win0_13.blk t).view.emb j) 1).val % 1024 % 1024
    omega

/-- Which entries of the first result grid point `t` writes. -/
theorem mem12 (t : Fin cfg0.N) (i) : i ∈ ((cfg0.win 12).blk t).view.set ↔
    ∀ a, win0_12.index t a * win0_12.size a ≤ (i a).val ∧ (i a).val < win0_12.index t a * win0_12.size a + win0_12.xsize (grid0.coords t) a := by
  show i ∈ ((View.whole main_v6_0).slice (win0_12.rect t)).set ↔ _
  rw [View.set_slice_whole, Rect.mem_set_unit]

/-- Which entries of the second result grid point `t` writes. -/
theorem mem13 (t : Fin cfg0.N) (i) : i ∈ ((cfg0.win 13).blk t).view.set ↔
    ∀ a, win0_13.index t a * win0_13.size a ≤ (i a).val ∧ (i a).val < win0_13.index t a * win0_13.size a + win0_13.xsize (grid0.coords t) a := by
  show i ∈ ((View.whole main_v6_1).slice (win0_13.rect t)).set ↔ _
  rw [View.set_slice_whole, Rect.mem_set_unit]

/-- The first result array after the run. -/
theorem arr12 (c : Dev nD) : (dats m 0 c).arrAt 12 cfg0.N = xnormArr (V m c main_arg0) := by
  refine (dats m 0 c).arrAt_eq_of_cover 12 _ (fun t _ => flushed12 m c t) (fun i => ?_)
  have h0 : (i 0).val < 32 := (i 0).isLt
  have h1 : (i 1).val < 720 := (i 1).isLt
  have h2 : (i 2).val < 512 := (i 2).isLt
  have hN : (i 0).val / 2 < cfg0.N := by
    have := N_0
    show _ < grid0.N
    omega
  refine ⟨⟨(i 0).val / 2, hN⟩, flush0_12 _, (mem12 ⟨(i 0).val / 2, hN⟩ i).mpr fun a => ?_⟩
  have e := where12 ⟨(i 0).val / 2, hN⟩
  have x := ext12 ⟨(i 0).val / 2, hN⟩
  match a with
  | ⟨0, _⟩ =>
    show win0_12.index _ 0 * win0_12.size 0 ≤ (i 0).val ∧ (i 0).val < win0_12.index _ 0 * win0_12.size 0 + win0_12.xsize _ 0
    rw [e.1, x.1]; dsimp only; omega
  | ⟨1, _⟩ =>
    show win0_12.index _ 1 * win0_12.size 1 ≤ (i 1).val ∧ (i 1).val < win0_12.index _ 1 * win0_12.size 1 + win0_12.xsize _ 1
    rw [e.2.1, x.2.1]; omega
  | ⟨2, _⟩ =>
    show win0_12.index _ 2 * win0_12.size 2 ≤ (i 2).val ∧ (i 2).val < win0_12.index _ 2 * win0_12.size 2 + win0_12.xsize _ 2
    rw [e.2.2, x.2.2]; omega

/-- The second result array after the run. -/
theorem arr13 (c : Dev nD) : (dats m 0 c).arrAt 13 cfg0.N = predArr (V m c main_arg0) (V m c main_arg1) (V m c main_arg2)
      (V m c main_v0) (V m c main_v1) (V m c main_arg5) (V m c main_arg6) (V m c main_v2) (V m c main_v3) (V m c main_v4)
      (V m c main_arg10) (V m c main_v5) := by
  refine (dats m 0 c).arrAt_eq_of_cover 13 _ (fun t _ => flushed13 m c t) (fun i => ?_)
  have h0 : (i 0).val < 56 := (i 0).isLt
  have h1 : (i 1).val < 16384 := (i 1).isLt
  have hN : (i 1).val / 1024 < cfg0.N := by
    have := N_0
    show _ < grid0.N
    omega
  refine ⟨⟨(i 1).val / 1024, hN⟩, flush0_13 _, (mem13 ⟨(i 1).val / 1024, hN⟩ i).mpr fun a => ?_⟩
  have e := where13 ⟨(i 1).val / 1024, hN⟩
  have x := ext13 ⟨(i 1).val / 1024, hN⟩
  match a with
  | ⟨0, _⟩ =>
    show win0_13.index _ 0 * win0_13.size 0 ≤ (i 0).val ∧ (i 0).val < win0_13.index _ 0 * win0_13.size 0 + win0_13.xsize _ 0
    rw [e.1, x.1]; omega
  | ⟨1, _⟩ =>
    show win0_13.index _ 1 * win0_13.size 1 ≤ (i 1).val ∧ (i 1).val < win0_13.index _ 1 * win0_13.size 1 + win0_13.xsize _ 1
    rw [e.2, x.2]; dsimp only; omega

/-- What the operations before the call compute: the biases as columns, the step embedding transposed. -/
theorem V_host (c : Dev nD) :
    V m c main_v0 = shapeCast S768x1 (m ((c.tc : Thread nD τ).loc main_arg3)) shapeCasts_S768_S768x1
    ∧ V m c main_v1 = shapeCast S768x1 (m ((c.tc : Thread nD τ).loc main_arg4)) shapeCasts_S768_S768x1
    ∧ V m c main_v2 = shapeCast S768x1 (m ((c.tc : Thread nD τ).loc main_arg7)) shapeCasts_S768_S768x1
    ∧ V m c main_v3 = shapeCast S768x1 (m ((c.tc : Thread nD τ).loc main_arg8)) shapeCasts_S768_S768x1
    ∧ V m c main_v4 = transpose S16x14 [1, 0] (m ((c.tc : Thread nD τ).loc main_arg9)) transposes_S14x16_S16x14_1_0
    ∧ V m c main_v5 = shapeCast S4x1 (m ((c.tc : Thread nD τ).loc main_arg11)) shapeCasts_S4_S4x1 := by
  refine ⟨?_, ?_, ?_, ?_, ?_, ?_⟩ <;>
    (show StableHlo.after (List.flatten [hostOps0]) (fun b => m (c, b)) (Proc.devRef .tc _) = _
     simp only [List.flatten_cons, List.flatten_nil, List.append_nil]
     after_reads_simp
     try rfl)

end Cert.Proof.K

end
-- ==== Proof.Spec.lean ====
/-
  The mathematics both programs compute, over one column of the signal: the wavelet bands, each patch's statistics and
  features, the gated recurrence and the head.
-/
module

public import Idealize.ShloMosaic.Lib.Pointwise

@[expose] public section

set_option maxRecDepth 16384

noncomputable section

namespace Cert.Proof.Spec

open Idealize.ShloMosaic

/-- A real constant of the programs, from its binary32 pattern. -/
abbrev lit (b : BitVec 32) : EReal := Ideal.ofBits .f32 b

/-! ## The bands of one column -/

/-- The place `d` steps to the left of `t`, reflected at the start. -/
def lft (d : Fin 720) (t : Fin 720) : Fin 720 := ⟨if t.val < d.val then d.val - t.val else t.val - d.val, by split <;> omega⟩

/-- The place `d` steps to the right of `t`, reflected at the end. -/
def rgt (d : Fin 720) (t : Fin 720) : Fin 720 :=
  ⟨if t.val + d.val < 720 then t.val + d.val else 1438 - (t.val + d.val), by split <;> omega⟩

/-- The half sum of the two neighbours at distances `d` and `e`. -/
def band (d e : Fin 720) (s : Fin 720 → EReal) (t : Fin 720) : EReal := lit 0x3F000000#32 * (s (lft d t) + s (rgt e t))

/-- The first approximation. -/
def a1 (s : Fin 720 → EReal) : Fin 720 → EReal := band 1 0 s
/-- The second approximation. -/
def a2 (s : Fin 720 → EReal) : Fin 720 → EReal := band 1 1 (a1 s)
/-- The third approximation: the low band. -/
def a3 (s : Fin 720 → EReal) : Fin 720 → EReal := band 2 2 (a2 s)
/-- The high band. -/
def hi (s : Fin 720 → EReal) (t : Fin 720) : EReal := s t - a1 s t
/-- The second detail. -/
def d2 (s : Fin 720 → EReal) (t : Fin 720) : EReal := a1 s t - a2 s t
/-- The third detail. -/
def d3 (s : Fin 720 → EReal) (t : Fin 720) : EReal := a2 s t - a3 s t

/-! ## The statistics of one patch -/

/-- Place `k` of patch `p`. -/
def at24 (p : Fin 30) (k : Fin 24) : Fin 720 := ⟨p.val * 24 + k.val, by omega⟩

/-- The patch's mean. -/
def mean (u : Fin 720 → EReal) (p : Fin 30) : EReal := Ideal.div (∑ k : Fin 24, u (at24 p k)) (lit 0x41C00000#32)
/-- The patch's deviation, at least the floor. -/
def dev (u : Fin 720 → EReal) (p : Fin 30) : EReal :=
  max (Ideal.sqrt ((∑ k : Fin 24, (u (at24 p k) - mean u p) * (u (at24 p k) - mean u p)) * ((1 / 23 : ℝ) : EReal)))
    (lit 0x3A83126F#32)
/-- The patch's energy. -/
def energy (u : Fin 720 → EReal) (p : Fin 30) : EReal :=
  Ideal.div (∑ k : Fin 24, u (at24 p k) * u (at24 p k)) (lit 0x41C00000#32)
/-- The high band's share of the patch's energy. -/
def rho (s : Fin 720 → EReal) (p : Fin 30) : EReal :=
  Ideal.div (energy (hi s) p)
    (energy (a3 s) p + energy (hi s) p + energy (d2 s) p + energy (d3 s) p + lit 0x358637BD#32)
/-- The column's mean. -/
def gmean (u : Fin 720 → EReal) : EReal := Ideal.div (∑ k : Fin 720, u k) (lit 0x44340000#32)
/-- The column's deviation, at least the floor. -/
def gdev (u : Fin 720 → EReal) : EReal :=
  max (Ideal.sqrt ((∑ k : Fin 720, (u k - gmean u) * (u k - gmean u)) * ((1 / 719 : ℝ) : EReal))) (lit 0x3A83126F#32)

/-- The patch place `t` lies in. -/
def patchOf (t : Fin 720) : Fin 30 := ⟨t.val / 24, by omega⟩

/-- The normalised column. -/
def xnorm (s : Fin 720 → EReal) (t : Fin 720) : EReal :=
  Ideal.div (a3 s t - mean (a3 s) (patchOf t)) (dev (a3 s) (patchOf t)) + hi s t
    + Ideal.div (d2 s t) (dev (d2 s) (patchOf t)) + Ideal.div (d3 s t) (dev (d3 s) (patchOf t))

/-- The first four features of a patch: those the prediction starts from. -/
def stat (s : Fin 720 → EReal) (p : Fin 30) (o : Fin 4) : EReal :=
  match o with
  | 0 => mean (a3 s) p
  | 1 => Ideal.log (dev (a3 s) p)
  | 2 => Ideal.log (dev (d2 s) p)
  | 3 => Ideal.log (dev (d3 s) p)

/-- The seven features of a patch. -/
def feat (s : Fin 720 → EReal) (p : Fin 30) (f : Fin 7) : EReal :=
  match f with
  | 0 => mean (a3 s) p
  | 1 => Ideal.log (dev (a3 s) p)
  | 2 => Ideal.log (dev (d2 s) p)
  | 3 => Ideal.log (dev (d3 s) p)
  | 4 => rho s p
  | 5 => gmean (a3 s)
  | 6 => Ideal.log (gdev (a3 s))

/-! ## The recurrence and the head -/

/-- A linear map with its bias. -/
def lin {a n : ℕ} (W : Fin a → Fin n → EReal) (b : Fin a → EReal) (v : Fin n → EReal) (g : Fin a) : EReal :=
  ∑ k : Fin n, W g k * v k + b g

/-- One step of the gated recurrence, from the input's gates and the hidden state's. -/
def step (gi gh : Fin 768 → EReal) (h : Fin 256 → EReal) (j : Fin 256) : EReal :=
  (1 - Ideal.logistic (gi ⟨256 + j.val, by omega⟩ + gh ⟨256 + j.val, by omega⟩))
      * Ideal.tanh (gi ⟨512 + j.val, by omega⟩
        + Ideal.logistic (gi ⟨j.val, by omega⟩ + gh ⟨j.val, by omega⟩) * gh ⟨512 + j.val, by omega⟩)
    + Ideal.logistic (gi ⟨256 + j.val, by omega⟩ + gh ⟨256 + j.val, by omega⟩) * h j

/-- The weights of the recurrence and of the head. -/
structure Weights where
  /-- The history's input weights. -/
  Wi : Fin 768 → Fin 7 → EReal
  /-- The history's hidden weights. -/
  We : Fin 768 → Fin 256 → EReal
  /-- The history's input bias. -/
  bi : Fin 768 → EReal
  /-- The history's hidden bias. -/
  be : Fin 768 → EReal
  /-- The future's input weights. -/
  Wd : Fin 768 → Fin 16 → EReal
  /-- The future's hidden weights. -/
  Wh : Fin 768 → Fin 256 → EReal
  /-- The future's input bias. -/
  bd : Fin 768 → EReal
  /-- The future's hidden bias. -/
  bh : Fin 768 → EReal
  /-- The future's step embedding. -/
  fe : Fin 14 → Fin 16 → EReal
  /-- The head's weights. -/
  hW : Fin 4 → Fin 256 → EReal
  /-- The head's bias. -/
  hb : Fin 4 → EReal

/-- The hidden state after `t` patches of the history. -/
def enc (w : Weights) (s : Fin 720 → EReal) : ℕ → Fin 256 → EReal
  | 0 => fun _ => 0
  | t + 1 => step (lin w.Wi w.bi (feat s (Fin.ofNat 30 t))) (lin w.We w.be (enc w s t)) (enc w s t)

/-- The hidden state after `t` steps of the future. -/
def dec (w : Weights) (s : Fin 720 → EReal) : ℕ → Fin 256 → EReal
  | 0 => enc w s 30
  | t + 1 => step (lin w.Wd w.bd (w.fe (Fin.ofNat 14 t))) (lin w.Wh w.bh (dec w s t)) (dec w s t)

/-- The prediction of step `t`: the head at the hidden state, on top of the last patch's statistics. -/
def pred (w : Weights) (s : Fin 720 → EReal) (t : Fin 14) (o : Fin 4) : EReal :=
  lin w.hW w.hb (dec w s (t.val + 1)) o + stat s 29 o

end Cert.Proof.Spec

end
-- ==== Proof.KVal.lean ====
/-
  The kernel's bands, statistics and features, read at an entry: the column's mathematics.
-/
module

public import proofs.«01_k».proof.Proof.KArr
public import proofs.«01_k».proof.Proof.Spec

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL.Sem

/-- The column at row `r`, lane `c` of a block. -/
def colOf (x : FVec Ideal S2x720x512 .f32) (r : Fin 2) (c : Fin 512) (t : Fin 720) : EReal := x (ix3 r t c)

/-- The first approximation. -/
theorem a1_at (x : FVec Ideal S2x720x512 .f32) (r : Fin 2) (t : Fin 720) (c : Fin 512) :
    k0_pay2 (F := Ideal) x (ix3 r t c) = Spec.a1 (colOf x r c) t := by
  pointwise [k0_pay2]
  refine congrArg (_ * ·) (Ideal.add_congr ?_ ?_)
  · by_cases h : (t : ℕ) < 1
    · rw [dif_pos h]
      refine congrArg (fun t' => x (ix3 r t' c)) (Fin.ext ?_)
      show 1 + t.val = if t.val < 1 then 1 - t.val else t.val - 1
      rw [if_pos h]; omega
    · rw [dif_neg h]
      refine congrArg (fun t' => x (ix3 r t' c)) (Fin.ext ?_)
      show t.val - 1 = if t.val < 1 then 1 - t.val else t.val - 1
      rw [if_neg h]
  · refine congrArg (fun t' => x (ix3 r t' c)) (Fin.ext ?_)
    show t.val = if t.val + 0 < 720 then t.val + 0 else _
    rw [if_pos (by omega)]; omega

/-- The second approximation. -/
theorem a2_at (x : FVec Ideal S2x720x512 .f32) (r : Fin 2) (t : Fin 720) (c : Fin 512) :
    k0_pay3 (F := Ideal) x (ix3 r t c) = Spec.a2 (colOf x r c) t := by
  pointwise [k0_pay3]
  simp only [a1_at]
  refine congrArg (_ * ·) (Ideal.add_congr ?_ ?_)
  · by_cases h : (t : ℕ) < 1
    · rw [dif_pos h]
      refine congrArg (Spec.a1 (colOf x r c)) (Fin.ext ?_)
      show 1 + t.val = if t.val < 1 then 1 - t.val else t.val - 1
      rw [if_pos h]; omega
    · rw [dif_neg h]
      refine congrArg (Spec.a1 (colOf x r c)) (Fin.ext ?_)
      show t.val - 1 = if t.val < 1 then 1 - t.val else t.val - 1
      rw [if_neg h]
  · by_cases h : (t : ℕ) < 719
    · rw [dif_pos h]
      refine congrArg (Spec.a1 (colOf x r c)) (Fin.ext ?_)
      show 1 + t.val = if t.val + 1 < 720 then t.val + 1 else 1438 - (t.val + 1)
      rw [if_pos (by omega)]; omega
    · rw [dif_neg h]
      refine congrArg (Spec.a1 (colOf x r c)) (Fin.ext ?_)
      show 718 + (t.val - 719) = if t.val + 1 < 720 then t.val + 1 else 1438 - (t.val + 1)
      rw [if_neg (by omega)]; omega

/-- The low band. -/
theorem a3_at (x : FVec Ideal S2x720x512 .f32) (r : Fin 2) (t : Fin 720) (c : Fin 512) :
    k0_pay4 (F := Ideal) x (ix3 r t c) = Spec.a3 (colOf x r c) t := by
  pointwise [k0_pay4]
  simp only [a2_at]
  refine congrArg (_ * ·) (Ideal.add_congr ?_ ?_)
  · by_cases h : (t : ℕ) < 1
    · rw [dif_pos h]
      refine congrArg (Spec.a2 (colOf x r c)) (Fin.ext ?_)
      show 2 + t.val = if t.val < 2 then 2 - t.val else t.val - 2
      rw [if_pos (by omega)]; omega
    · rw [dif_neg h]
      by_cases h' : (t : ℕ) - 1 < 1
      · rw [dif_pos h']
        refine congrArg (Spec.a2 (colOf x r c)) (Fin.ext ?_)
        show 1 + (t.val - 1) = if t.val < 2 then 2 - t.val else t.val - 2
        rw [if_pos (by omega)]; omega
      · rw [dif_neg h']
        refine congrArg (Spec.a2 (colOf x r c)) (Fin.ext ?_)
        show t.val - 1 - 1 = if t.val < 2 then 2 - t.val else t.val - 2
        rw [if_neg (by omega)]; omega
  · by_cases h : (t : ℕ) < 718
    · rw [dif_pos h]
      refine congrArg (Spec.a2 (colOf x r c)) (Fin.ext ?_)
      show 2 + t.val = if t.val + 2 < 720 then t.val + 2 else 1438 - (t.val + 2)
      rw [if_pos (by omega)]; omega
    · rw [dif_neg h]
      by_cases h' : (t : ℕ) - 718 < 1
      · rw [dif_pos h']
        refine congrArg (Spec.a2 (colOf x r c)) (Fin.ext ?_)
        show 718 + (t.val - 718) = if t.val + 2 < 720 then t.val + 2 else 1438 - (t.val + 2)
        rw [if_neg (by omega)]; omega
      · rw [dif_neg h']
        refine congrArg (Spec.a2 (colOf x r c)) (Fin.ext ?_)
        show 717 + (t.val - 718 - 1) = if t.val + 2 < 720 then t.val + 2 else 1438 - (t.val + 2)
        rw [if_neg (by omega)]; omega

/-- The high band. -/
theorem hi_at (x : FVec Ideal S2x720x512 .f32) (r : Fin 2) (t : Fin 720) (c : Fin 512) :
    k0_pay5 (F := Ideal) x (ix3 r t c) = Spec.hi (colOf x r c) t := by
  pointwise [k0_pay5, a1_at]
  rfl

/-- The second detail. -/
theorem d2_at (x : FVec Ideal S2x720x512 .f32) (r : Fin 2) (t : Fin 720) (c : Fin 512) :
    k0_pay6 (F := Ideal) x (ix3 r t c) = Spec.d2 (colOf x r c) t := by
  pointwise [k0_pay6, a1_at, a2_at]
  rfl

/-- The third detail. -/
theorem d3_at (x : FVec Ideal S2x720x512 .f32) (r : Fin 2) (t : Fin 720) (c : Fin 512) :
    k0_pay7 (F := Ideal) x (ix3 r t c) = Spec.d3 (colOf x r c) t := by
  pointwise [k0_pay7, a2_at, a3_at]
  rfl

/-- The named reciprocals are the real ones. -/
theorem inv23 : Named.named (F := Ideal) (φ := .f32) κ "inv23" 0x3D321643#32 = ((1 / 23 : ℝ) : EReal) :=
  IdealRules.named_const.ideal_named_scalar _ _ _ _ rfl

/-- The named reciprocals are the real ones. -/
theorem inv719 : Named.named (F := Ideal) (φ := .f32) κ "inv719" 0x3AB64C32#32 = ((1 / 719 : ℝ) : EReal) :=
  IdealRules.named_const.ideal_named_scalar _ _ _ _ rfl

/-- The low band's patch mean. -/
theorem mean_at (x : FVec Ideal S2x720x512 .f32) (r : Fin 2) (p : Fin 30) (c : Fin 512) :
    k0_pay9 (F := Ideal) x (ix3 r p c) = Spec.mean (Spec.a3 (colOf x r c)) p := by
  pointwise [k0_pay9, k0_pay8, a3_at]
  rfl

/-- The low band's patch deviation. -/
theorem dev_at (x : FVec Ideal S2x720x512 .f32) (r : Fin 2) (p : Fin 30) (c : Fin 512) :
    k0_pay10 (F := Ideal) x (ix3 r p c) = Spec.dev (Spec.a3 (colOf x r c)) p := by
  pointwise [k0_pay10, k0_pay9, k0_pay8, a3_at, inv23]
  rfl

/-- A detail's patch deviation, of any band. -/
theorem dev2_at (u : FVec Ideal S2x720x512 .f32) (r : Fin 2) (p : Fin 30) (c : Fin 512) :
    k0_pay13 (F := Ideal) u (ix3 r p c) = Spec.dev (colOf u r c) p := by
  pointwise [k0_pay13, k0_pay12, inv23]
  rfl

/-- A detail's patch deviation, of any band. -/
theorem dev3_at (u : FVec Ideal S2x720x512 .f32) (r : Fin 2) (p : Fin 30) (c : Fin 512) :
    k0_pay16 (F := Ideal) u (ix3 r p c) = Spec.dev (colOf u r c) p := by
  pointwise [k0_pay16, k0_pay15, inv23]
  rfl

/-- The second detail's column. -/
theorem col_d2 (x : FVec Ideal S2x720x512 .f32) (r : Fin 2) (c : Fin 512) :
    colOf (k0_pay6 (F := Ideal) x) r c = Spec.d2 (colOf x r c) := funext fun t => d2_at x r t c

/-- The third detail's column. -/
theorem col_d3 (x : FVec Ideal S2x720x512 .f32) (r : Fin 2) (c : Fin 512) :
    colOf (k0_pay7 (F := Ideal) x) r c = Spec.d3 (colOf x r c) := funext fun t => d3_at x r t c

/-- The low band's column. -/
theorem col_a3 (x : FVec Ideal S2x720x512 .f32) (r : Fin 2) (c : Fin 512) :
    colOf (k0_pay4 (F := Ideal) x) r c = Spec.a3 (colOf x r c) := funext fun t => a3_at x r t c

/-- The high band's share. -/
theorem rho_at (x : FVec Ideal S2x720x512 .f32) (r : Fin 2) (p : Fin 30) (c : Fin 512) :
    rhoBlk (F := Ideal) x (ix3 r p c) = Spec.rho (colOf x r c) p := by
  pointwise [rhoBlk, k0_pay20, k0_pay19, k0_pay18, k0_pay17, k0_pay15, k0_pay14, k0_pay12, k0_pay11, k0_pay8, a3_at, hi_at,
    d2_at, d3_at]
  rfl

/-- The column's mean. -/
theorem gmean_at (u : FVec Ideal S2x720x512 .f32) (r : Fin 2) (c : Fin 512) :
    k0_pay21 (F := Ideal) u (ix2 r c) = Spec.gmean (colOf u r c) := by
  pointwise [k0_pay21]
  rfl

/-- The column's deviation. -/
theorem gdev_at (u : FVec Ideal S2x720x512 .f32) (r : Fin 2) (c : Fin 512) :
    k0_pay22 (F := Ideal) u (ix2 r c) = Spec.gdev (colOf u r c) := by
  pointwise [k0_pay22, k0_pay21, inv719]
  rfl

/-- The normalised rows of a block. -/
theorem xnorm_at (x : FVec Ideal S2x720x512 .f32) (r : Fin 2) (t : Fin 720) (c : Fin 512) :
    xnormBlk (F := Ideal) x (ix3 r t c) = Spec.xnorm (colOf x r c) t := by
  pointwise [xnormBlk, k0_pay26]
  simp only [a3_at, hi_at, d2_at, d3_at, mean_at, dev_at, dev2_at, dev3_at, col_d2, col_d3]
  rfl

end Cert.Proof.K

end
-- ==== Proof.KFeat.lean ====
/-
  The kernel's stacked features and its recurrence, read at an entry: the column's mathematics.
-/
module

public import proofs.«01_k».proof.Proof.KVal

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL.Sem

/-- The row of lane `l`. -/
def laneRow (l : Fin 1024) : Fin 2 := ⟨l.val / 512, by omega⟩
/-- The column of lane `l`. -/
def laneCol (l : Fin 1024) : Fin 512 := ⟨l.val % 512, by omega⟩

/-- A lane of the first half. -/
theorem lane_lo {l : Fin 1024} (h : l.val < 512) : laneRow l = 0 ∧ laneCol l = ⟨l.val, h⟩ :=
  ⟨Fin.ext (by show l.val / 512 = 0; omega), Fin.ext (by show l.val % 512 = l.val; omega)⟩

/-- A lane of the second half. -/
theorem lane_hi {l : Fin 1024} (h : ¬ l.val < 512) : laneRow l = 1 ∧ laneCol l = ⟨l.val - 512, by omega⟩ :=
  ⟨Fin.ext (by show l.val / 512 = 1; omega), Fin.ext (by show l.val % 512 = l.val - 512; omega)⟩

set_option maxRecDepth 65536 in
set_option maxHeartbeats 1600000 in
/-- The stacked features, each at its lane's row and column. -/
theorem stack_at (rho : FVec Ideal S2x30x512 .f32) (gm gd : FVec Ideal S2x512 .f32) (mu s1 l1 l2 l3 : FVec Ideal S2x30x512 .f32)
    (hl1 : l1 = k0_pay23 s1) (p : Fin 30) (f : Fin 7) (l : Fin 1024) :
    k0_pay30 (F := Ideal) rho gm gd l1 l2 l3 (k0_pay27 (F := Ideal)) (k0_pay28 mu) (k0_pay29 s1) (ix3 p f l)
      = match f with
        | 0 => mu (ix3 (laneRow l) p (laneCol l))
        | 1 => l1 (ix3 (laneRow l) p (laneCol l))
        | 2 => l2 (ix3 (laneRow l) p (laneCol l))
        | 3 => l3 (ix3 (laneRow l) p (laneCol l))
        | 4 => rho (ix3 (laneRow l) p (laneCol l))
        | 5 => gm (ix2 (laneRow l) (laneCol l))
        | 6 => Ideal.log (gd (ix2 (laneRow l) (laneCol l))) := by
  subst hl1
  pointwise [k0_pay30, k0_pay29, k0_pay28, k0_pay27]
  by_cases h : (l : ℕ) < 512
  · rw [(lane_lo h).1, (lane_lo h).2]
    simp only [dif_pos h]
    fin_cases f <;> rfl
  · rw [(lane_hi h).1, (lane_hi h).2]
    simp only [dif_neg h]
    fin_cases f <;> rfl

/-- One step, at an entry. -/
theorem gate_at (ir iz ig : FVec Ideal S256x1024 .f32) (gh : FVec Ideal S768x1024 .f32) (h : FVec Ideal S256x1024 .f32)
    (gi : Fin 768 → EReal) (j : Fin 256) (l : Fin 1024) (hr : ir (ix2 j l) = gi ⟨j.val, by omega⟩)
    (hz : iz (ix2 j l) = gi ⟨256 + j.val, by omega⟩) (hg : ig (ix2 j l) = gi ⟨512 + j.val, by omega⟩) :
    gate (F := Ideal) ir iz ig gh h (ix2 j l) = Spec.step gi (fun g => gh (ix2 g l)) (fun k => h (ix2 k l)) j := by
  pointwise [gate, hr, hz, hg]
  rfl

/-- The hidden state's gates, at an entry. -/
theorem hid_at (W : FVec Ideal S768x256 .bf16) (b : FVec Ideal S768x1 .f32) (h : FVec Ideal S256x1024 .f32) (g : Fin 768)
    (l : Fin 1024) : hidGates (F := Ideal) W b h (ix2 g l)
      = Spec.lin (fun g k => W (ix2 g k)) (fun g => b (ix2 g 0)) (fun k => h (ix2 k l)) g := by
  pointwise [hidGates]
  rfl

/-- The features' gates, at an entry. -/
theorem encGates_at (W : FVec Ideal S768x7 .bf16) (b : FVec Ideal S768x1 .f32) (xs : FVec Ideal S30x7x1024 .bf16) (t : Fin 30)
    (g : Fin 768) (l : Fin 1024) : encGates (F := Ideal) W b xs t (ix2 g l)
      = Spec.lin (fun g k => W (ix2 g k)) (fun g => b (ix2 g 0)) (fun k => xs (ix3 t k l)) g := by
  pointwise [encGates]
  rfl

/-- The column of the signal at lane `l` of a block. -/
def laneOf (x : FVec Ideal S2x720x512 .f32) (l : Fin 1024) : Fin 720 → EReal := colOf x (laneRow l) (laneCol l)

/-- The features of a block, at an entry. -/
theorem feat_at (x : FVec Ideal S2x720x512 .f32) (p : Fin 30) (f : Fin 7) (l : Fin 1024) :
    featBlk (F := Ideal) x (ix3 p f l) = Spec.feat (laneOf x l) p f := by
  unfold featBlk
  rw [stack_at _ _ _ _ _ _ _ _ rfl]
  fin_cases f
  · exact mean_at _ _ _ _
  · exact congrArg Ideal.log (dev_at _ _ _ _)
  · exact congrArg Ideal.log ((dev2_at _ _ _ _).trans (by rw [col_d2]; rfl))
  · exact congrArg Ideal.log ((dev3_at _ _ _ _).trans (by rw [col_d3]; rfl))
  · exact rho_at _ _ _ _
  · exact (gmean_at _ _ _).trans (by rw [col_a3]; rfl)
  · exact congrArg Ideal.log ((gdev_at _ _ _).trans (by rw [col_a3]; rfl))

set_option maxHeartbeats 1600000 in
/-- The last patch's first four features, stacked. -/
theorem last4_at (mu l1 l2 l3 : FVec Ideal S2x30x512 .f32) (o : Fin 4) (l : Fin 1024) :
    k0_pay36 (F := Ideal) (k0_pay31 mu) (k0_pay32 l1) (k0_pay33 l2) (k0_pay34 l3) (k0_pay35 l3) (ix2 o l)
      = match o with
        | 0 => mu (ix3 (laneRow l) 29 (laneCol l))
        | 1 => l1 (ix3 (laneRow l) 29 (laneCol l))
        | 2 => l2 (ix3 (laneRow l) 29 (laneCol l))
        | 3 => l3 (ix3 (laneRow l) 29 (laneCol l)) := by
  pointwise [k0_pay36, k0_pay35, k0_pay34, k0_pay33, k0_pay32, k0_pay31]
  by_cases h : (l : ℕ) < 512
  · rw [(lane_lo h).1, (lane_lo h).2]
    simp only [dif_pos h]
    fin_cases o <;> rfl
  · rw [(lane_hi h).1, (lane_hi h).2]
    simp only [dif_neg h]
    fin_cases o <;> rfl

/-- The statistics the prediction starts from, at an entry. -/
theorem last_at (x : FVec Ideal S2x720x512 .f32) (o : Fin 4) (l : Fin 1024) :
    lastBlk (F := Ideal) x (ix2 o l) = Spec.stat (laneOf x l) 29 o := by
  unfold lastBlk
  refine (last4_at _ _ _ _ _ _).trans ?_
  fin_cases o
  · exact mean_at _ _ _ _
  · exact congrArg Ideal.log (dev_at _ _ _ _)
  · exact congrArg Ideal.log ((dev2_at _ _ _ _).trans (by rw [col_d2]; rfl))
  · exact congrArg Ideal.log ((dev3_at _ _ _ _).trans (by rw [col_d3]; rfl))

set_option maxHeartbeats 1600000 in
/-- The fourteen blocks of four rows, at an entry. -/
theorem rows14_at (r : ℕ → FVec Ideal S4x1024 .f32) (q : Fin 56) (l : Fin 1024) :
    rows14 (F := Ideal) r (ix2 q l) = r (q.val / 4 + 1) (ix2 ⟨q.val % 4, by omega⟩ l) := by
  have e : rows14 (F := Ideal) r = concatenate S56x1024 0 (List.ofFn fun n : Fin 14 => (⟨S4x1024, r (n.val + 1)⟩ : (s : Shape) × (s.Idx → Ideal .f32)))
      concatenates_S4x1024_S4x1024_S4x1024_S4x1024_S4x1024_S4x1024_S4x1024_S4x1024_S4x1024_S4x1024_S4x1024_S4x1024_S4x1024_S4x1024_S56x1024_d0 := rfl
  rw [e]
  refine concatenate_ofFn_apply (t := S56x1024) (s₁ := S4x1024) 0 (fun n : Fin 14 => r (n.val + 1)) _ rfl 4 rfl (ix2 q l) ⟨q.val / 4, by omega⟩ rfl (ix2 ⟨q.val % 4, by omega⟩ l) rfl ?_
  intro b hb
  fin_cases b
  · exact absurd rfl hb
  · rfl

/-- The weights a grid point loads. -/
def weightsOf (x1 : FVec Ideal S768x7 .f32) (x2 : FVec Ideal S768x256 .f32) (x3 x4 : FVec Ideal S768x1 .f32)
    (x5 : FVec Ideal S768x16 .f32) (x6 : FVec Ideal S768x256 .f32) (x7 x8 : FVec Ideal S768x1 .f32) (x9 : FVec Ideal S16x14 .f32)
    (x10 : FVec Ideal S4x256 .f32) (x11 : FVec Ideal S4x1 .f32) : Spec.Weights where
  Wi := fun g k => x1 (ix2 g k)
  We := fun g k => x2 (ix2 g k)
  bi := fun g => x3 (ix2 g 0)
  be := fun g => x4 (ix2 g 0)
  Wd := fun g k => x5 (ix2 g k)
  Wh := fun g k => x6 (ix2 g k)
  bd := fun g => x7 (ix2 g 0)
  bh := fun g => x8 (ix2 g 0)
  fe := fun t k => x9 (ix2 k t)
  hW := fun o k => x10 (ix2 o k)
  hb := fun o => x11 (ix2 o 0)

section

variable (x : FVec Ideal S2x720x512 .f32) (x1 : FVec Ideal S768x7 .f32) (x2 : FVec Ideal S768x256 .f32)
  (x3 x4 : FVec Ideal S768x1 .f32) (x5 : FVec Ideal S768x16 .f32) (x6 : FVec Ideal S768x256 .f32) (x7 x8 : FVec Ideal S768x1 .f32)
  (x9 : FVec Ideal S16x14 .f32) (x10 : FVec Ideal S4x256 .f32) (x11 : FVec Ideal S4x1 .f32)

/-- The history's hidden state, one step on. -/
theorem encH_succ (Wi : FVec Ideal S768x7 .bf16) (W : FVec Ideal S768x256 .bf16) (bi b : FVec Ideal S768x1 .f32)
    (xs : FVec Ideal S30x7x1024 .bf16) (t : ℕ) :
    encH (F := Ideal) Wi W bi b xs (t + 1) = encStep W b (encGates Wi bi xs (Fin.ofNat 30 t)) (encH Wi W bi b xs t) := rfl

/-- The future's hidden state, one step on. -/
theorem decH_succ (W : FVec Ideal S768x256 .bf16) (b : FVec Ideal S768x1 .f32) (gi : FVec Ideal S768x14 .f32)
    (h0 : FVec Ideal S256x1024 .f32) (t : ℕ) : decH (F := Ideal) W b gi h0 (t + 1)
      = decStep W b (extractStridedSlice S768x1 ![0, (Fin.ofNat 14 t).val] gi (slices_col (Fin.ofNat 14 t))) (decH W b gi h0 t) := rfl

/-- The hidden states start at zero. -/
theorem encH_zero (Wi : FVec Ideal S768x7 .bf16) (W : FVec Ideal S768x256 .bf16) (bi b : FVec Ideal S768x1 .f32)
    (xs : FVec Ideal S30x7x1024 .bf16) (j : Fin 256) (l : Fin 1024) : encH (F := Ideal) Wi W bi b xs 0 (ix2 j l) = (0 : EReal) := by
  have e : encH (F := Ideal) Wi W bi b xs 0 = broadcast S256x1024 (Scalar.ofBits .f32 0x00000000#32) := rfl
  rw [e]
  pointwise

/-- One step of the history, at an entry. -/
theorem encStep_at (W : FVec Ideal S768x256 .bf16) (b : FVec Ideal S768x1 .f32) (gi : FVec Ideal S768x1024 .f32)
    (h : FVec Ideal S256x1024 .f32) (j : Fin 256) (l : Fin 1024) : encStep (F := Ideal) W b gi h (ix2 j l)
      = Spec.step (fun g => gi (ix2 g l))
          (Spec.lin (fun g k => W (ix2 g k)) (fun g => b (ix2 g 0)) (fun k => h (ix2 k l))) (fun k => h (ix2 k l)) j := by
  unfold encStep
  rw [gate_at _ _ _ _ _ (fun g => gi (ix2 g l)) j l (by pointwise) (by pointwise) (by pointwise)]
  simp only [hid_at]

/-- The hidden state of the history, at an entry. -/
theorem encH_at (t : ℕ) (j : Fin 256) (l : Fin 1024) :
    encH (F := Ideal) (k0_pay37 x1) (k0_pay38 x2) (k0_pay39 x3) (k0_pay40 x4) (k0_pay41 (featBlk x)) t (ix2 j l)
      = Spec.enc (weightsOf x1 x2 x3 x4 x5 x6 x7 x8 x9 x10 x11) (laneOf x l) t j := by
  induction t generalizing j with
  | zero => exact encH_zero _ _ _ _ _ _ _
  | succ t ih =>
    rw [encH_succ]
    rw [encStep_at]
    simp only [ih, encGates_at]
    pointwise [k0_pay37, k0_pay38, k0_pay39, k0_pay40, k0_pay41, feat_at]
    rfl

/-- One step of the future, at an entry. -/
theorem decStep_at (W : FVec Ideal S768x256 .bf16) (b : FVec Ideal S768x1 .f32) (g : FVec Ideal S768x1 .f32)
    (h : FVec Ideal S256x1024 .f32) (j : Fin 256) (l : Fin 1024) : decStep (F := Ideal) W b g h (ix2 j l)
      = Spec.step (fun k => g (ix2 k 0))
          (Spec.lin (fun g k => W (ix2 g k)) (fun g => b (ix2 g 0)) (fun k => h (ix2 k l))) (fun k => h (ix2 k l)) j := by
  unfold decStep
  rw [gate_at _ _ _ _ _ (fun k => g (ix2 k 0)) j l (by pointwise) (by pointwise) (by pointwise)]
  simp only [hid_at]

/-- The embedding's gates, at an entry. -/
theorem decGates_at (g : Fin 768) (t : Fin 14) : k0_pay90 (F := Ideal) x5 x9 x7 (ix2 g t)
      = Spec.lin (fun g k => x5 (ix2 g k)) (fun g => x7 (ix2 g 0)) (fun k => x9 (ix2 k t)) g := by
  pointwise [k0_pay90]
  rfl

/-- The hidden state of the future, at an entry. -/
theorem decH_at (t : ℕ) (j : Fin 256) (l : Fin 1024) :
    decH (F := Ideal) (k0_pay88 x6) (k0_pay89 x8) (k0_pay90 x5 x9 x7) (encEnd x x1 x2 x3 x4) t (ix2 j l)
      = Spec.dec (weightsOf x1 x2 x3 x4 x5 x6 x7 x8 x9 x10 x11) (laneOf x l) t j := by
  induction t generalizing j with
  | zero => exact encH_at x x1 x2 x3 x4 x5 x6 x7 x8 x9 x10 x11 30 j l
  | succ t ih =>
    rw [decH_succ]
    rw [decStep_at]
    simp only [ih]
    pointwise [k0_pay88, k0_pay89, decGates_at]
    rfl

/-- One predicted row, at an entry. -/
theorem predRow_at (last : FVec Ideal S4x1024 .f32) (hb : FVec Ideal S4x1 .f32) (h : FVec Ideal S256x1024 .f32) (o : Fin 4)
    (l : Fin 1024) : predRow (F := Ideal) x10 hb last h (ix2 o l)
      = Spec.lin (fun o k => x10 (ix2 o k)) (fun o => hb (ix2 o 0)) (fun k => h (ix2 k l)) o + last (ix2 o l) := by
  pointwise [predRow]
  rfl

/-- The predicted rows of a block, at an entry. -/
theorem predBlk_at (q : Fin 56) (l : Fin 1024) :
    predBlk (F := Ideal) x x1 x2 x3 x4 x5 x6 x7 x8 x9 x10 x11 (ix2 q l)
      = Spec.pred (weightsOf x1 x2 x3 x4 x5 x6 x7 x8 x9 x10 x11) (laneOf x l) ⟨q.val / 4, by omega⟩ ⟨q.val % 4, by omega⟩ := by
  unfold predBlk
  rw [rows14_at, predRow_at]
  simp only [decH_at x x1 x2 x3 x4 x5 x6 x7 x8 x9 x10 x11, last_at]
  pointwise [k0_pay91]
  rfl

end

end Cert.Proof.K

end
-- ==== Proof.KSpec.lean ====
/-
  The kernel's two results, at an entry: each column's mathematics.
-/
module

public import proofs.«01_k».proof.Proof.KFeat

@[expose] public section

set_option maxRecDepth 16384

noncomputable section

namespace Cert.Proof.K

open Cert.KernelIdeal Cert.KernelIdeal.Gen Cert.KernelIdeal.Value
open Idealize.ShloMosaic Idealize.ShloMosaic.TcCoe Idealize.ShloMosaic.Tactic
open Idealize.SL.Sem

variable (m : (ℓ : Loc nD τ sig) → Buf (Elt Ideal) ℓ)

/-- A vector laid as a column, at an entry. -/
theorem col768_at (v : FVec Ideal S768 .f32) (g : Fin 768) : shapeCast S768x1 v shapeCasts_S768_S768x1 (ix2 g 0) = v (ix1 g) := by
  pointwise

/-- The head's bias laid as a column, at an entry. -/
theorem col4_at (v : FVec Ideal S4 .f32) (o : Fin 4) : shapeCast S4x1 v shapeCasts_S4_S4x1 (ix2 o 0) = v (ix1 o) := by
  pointwise

/-- The weights, from the arguments. -/
def weightsK (x1 : FVec Ideal S768x7 .f32) (x2 : FVec Ideal S768x256 .f32) (x3 x4 : FVec Ideal S768 .f32)
    (x5 : FVec Ideal S768x16 .f32) (x6 : FVec Ideal S768x256 .f32) (x7 x8 : FVec Ideal S768 .f32) (x9 : FVec Ideal S14x16 .f32)
    (x10 : FVec Ideal S4x256 .f32) (x11 : FVec Ideal S4 .f32) : Spec.Weights where
  Wi := fun g k => x1 (ix2 g k)
  We := fun g k => x2 (ix2 g k)
  bi := fun g => x3 (ix1 g)
  be := fun g => x4 (ix1 g)
  Wd := fun g k => x5 (ix2 g k)
  Wh := fun g k => x6 (ix2 g k)
  bd := fun g => x7 (ix1 g)
  bh := fun g => x8 (ix1 g)
  fe := fun t k => x9 (ix2 t k)
  hW := fun o k => x10 (ix2 o k)
  hb := fun o => x11 (ix1 o)

/-- What a grid point loads are the weights of the arguments. -/
theorem weights_eq (x1 : FVec Ideal S768x7 .f32) (x2 : FVec Ideal S768x256 .f32) (x3 x4 : FVec Ideal S768 .f32)
    (x5 : FVec Ideal S768x16 .f32) (x6 : FVec Ideal S768x256 .f32) (x7 x8 : FVec Ideal S768 .f32) (x9 : FVec Ideal S14x16 .f32)
    (x10 : FVec Ideal S4x256 .f32) (x11 : FVec Ideal S4 .f32) :
    weightsOf x1 x2 (shapeCast S768x1 x3 shapeCasts_S768_S768x1) (shapeCast S768x1 x4 shapeCasts_S768_S768x1) x5 x6
        (shapeCast S768x1 x7 shapeCasts_S768_S768x1) (shapeCast S768x1 x8 shapeCasts_S768_S768x1)
        (transpose S16x14 [1, 0] x9 transposes_S14x16_S16x14_1_0) x10 (shapeCast S4x1 x11 shapeCasts_S4_S4x1)
      = weightsK x1 x2 x3 x4 x5 x6 x7 x8 x9 x10 x11 := by
  have ht : ∀ t k, transpose S16x14 [1, 0] x9 transposes_S14x16_S16x14_1_0 (ix2 k t) = x9 (ix2 t k) := fun t k => by pointwise
  unfold weightsOf weightsK
  simp only [col768_at, col4_at, ht]

/-- The signal in a device's arguments. -/
abbrev sig0 (c : Dev nD) : FVec Ideal S32x720x512 .f32 := m ((c.tc : Thread nD τ).loc main_arg0)

/-- The weights in a device's arguments. -/
abbrev wts (c : Dev nD) : Spec.Weights :=
  weightsK (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11))

/-- A row of a block's two rows is the array's. -/
theorem rows_col (X : FVec Ideal S32x720x512 .f32) (i : ℕ) (r : Fin 2) (b : Fin 32) (h : b.val = 2 * i + r.val) (l : Fin 512) :
    colOf (rowsAt (F := Ideal) X i) r l = fun t => X (ix3 b t l) := by
  funext t
  unfold colOf rowsAt
  refine congrArg X (congrFun (congrFun (congrArg ix3 (Fin.ext ?_)) t) l)
  show (2 * i + r.val) % 32 = b.val
  omega

/-- The normalised array, at an entry. -/
theorem xnormArr_at (X : FVec Ideal S32x720x512 .f32) (b : Fin 32) (t : Fin 720) (l : Fin 512) :
    xnormArr (F := Ideal) X (ix3 b t l) = Spec.xnorm (fun t => X (ix3 b t l)) t := by
  have e : xnormArr (F := Ideal) X (ix3 b t l) = xnormBlk (rowsAt (F := Ideal) X (b.val / 2)) (ix3 (Fin.ofNat 2 (b.val % 2)) t l) := rfl
  rw [e, xnorm_at, rows_col X (b.val / 2) (Fin.ofNat 2 (b.val % 2)) b (by show b.val = 2 * (b.val / 2) + b.val % 2 % 2; omega) l]

/-- The normalised signal, at an entry. -/
theorem norm_at (c : Dev nD) (b : Fin 32) (t : Fin 720) (l : Fin 512) :
    reg_main_v6_0 m c (ix3 b t l) = Spec.xnorm (fun t => sig0 m c (ix3 b t l)) t := by
  have e : reg_main_v6_0 m c = xnormArr (F := Ideal) (sig0 m c) := (arr12 m c).trans (congrArg (xnormArr (F := Ideal)) (V_main_arg0 m c))
  rw [e]
  exact xnormArr_at (sig0 m c) b t l

/-- The prediction before it is laid out, at an entry. -/
theorem lanes_at (c : Dev nD) (q : Fin 56) (n : Fin 16384) : reg_main_v6_1 m c (ix2 q n)
    = Spec.pred (wts m c) (fun t => sig0 m c (ix3 ⟨n.val / 512, by omega⟩ t ⟨n.val % 512, by omega⟩)) ⟨q.val / 4, by omega⟩ ⟨q.val % 4, by omega⟩ := by
  refine (congrFun (arr13 m c) _).trans ?_
  obtain ⟨e0, e1, e2, e3, e4, e5⟩ := V_host m c
  rw [V_main_arg0 m c, V_main_arg1 m c, V_main_arg2 m c, V_main_arg5 m c, V_main_arg6 m c, V_main_arg10 m c,
    e0, e1, e2, e3, e4, e5]
  refine (predBlk_at _ _ _ _ _ _ _ _ _ _ _ _ q _).trans ?_
  rw [weights_eq]
  refine congrFun (congrFun (congrArg (Spec.pred (wts m c)) ?_) _) _
  unfold laneOf
  show colOf (rowsAt (F := Ideal) (sig0 m c) (n.val / 1024)) (laneRow (Fin.ofNat 1024 (n.val % 1024))) (laneCol (Fin.ofNat 1024 (n.val % 1024))) = _
  have h1 : laneCol (Fin.ofNat 1024 (n.val % 1024)) = ⟨n.val % 512, by omega⟩ := Fin.ext (by
    show n.val % 1024 % 1024 % 512 = n.val % 512
    omega)
  have h0 : (laneRow (Fin.ofNat 1024 (n.val % 1024))).val = n.val % 1024 / 512 := by
    show n.val % 1024 % 1024 / 512 = n.val % 1024 / 512
    omega
  rw [h1]
  refine rows_col _ _ _ ⟨n.val / 512, by omega⟩ ?_ _
  rw [h0]
  show n.val / 512 = 2 * (n.val / 1024) + n.val % 1024 / 512
  omega

/-- The prediction, at an entry. -/
theorem pred_at (c : Dev nD) (b : Fin 32) (t : Fin 14) (o : Fin 4) (l : Fin 512) :
    transpose S32x14x4x512 [2, 0, 1, 3] (shapeCast S14x4x32x512 (reg_main_v6_1 m c) shapeCasts_S56x16384_S14x4x32x512)
        transposes_S14x4x32x512_S32x14x4x512_2_0_1_3 (ix4 b t o l)
      = Spec.pred (wts m c) (fun t => sig0 m c (ix3 b t l)) t o := by
  have e : ∀ w : FVec Ideal S56x16384 .f32, transpose S32x14x4x512 [2, 0, 1, 3] (shapeCast S14x4x32x512 w shapeCasts_S56x16384_S14x4x32x512)
      transposes_S14x4x32x512_S32x14x4x512_2_0_1_3 (ix4 b t o l)
      = w (ix2 ⟨t.val * 4 + o.val, by omega⟩ ⟨b.val * 512 + l.val, by omega⟩) := fun w => by pointwise
  refine (e _).trans ((lanes_at m c _ _).trans ?_)
  rw [show (⟨(b.val * 512 + l.val) / 512, by omega⟩ : Fin 32) = b from Fin.ext (by show (b.val * 512 + l.val) / 512 = b.val; omega),
    show (⟨(b.val * 512 + l.val) % 512, by omega⟩ : Fin 512) = l from Fin.ext (by show (b.val * 512 + l.val) % 512 = l.val; omega),
    show (⟨(t.val * 4 + o.val) / 4, by omega⟩ : Fin 14) = t from Fin.ext (by show (t.val * 4 + o.val) / 4 = t.val; omega),
    show (⟨(t.val * 4 + o.val) % 4, by omega⟩ : Fin 4) = o from Fin.ext (by show (t.val * 4 + o.val) % 4 = o.val; omega)]

end Cert.Proof.K

end
-- ==== Proof.RVal.lean ====
/-
  The reference's stages before and after its recurrence, as functions of arrays, and each read at an entry: the column's
  mathematics.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.Proof.R

open Cert.ReferenceIdeal Cert.ReferenceIdeal.Gen
open Idealize.ShloMosaic Idealize.ShloMosaic.TcCoe Idealize.ShloMosaic.Tactic
open Idealize.SL.Sem

/-! ## The constants -/

/-- One half, from its pattern. -/
theorem half_val : Spec.lit 0x3F000000#32 = ((1 / 2 : ℝ) : EReal) := by
  simp [Spec.lit, Ideal.ofBits, Ideal.ieee, -EReal.coe_mul]; norm_num

/-- Twenty-three, from its pattern. -/
theorem c23_val : Ideal.ofBits .f32 0x41B80000#32 = ((23 : ℝ) : EReal) := by
  simp [Ideal.ofBits, Ideal.ieee, -EReal.coe_mul]; norm_num

/-- Seven hundred and nineteen, from its pattern. -/
theorem c719_val : Ideal.ofBits .f32 0x4433C000#32 = ((719 : ℝ) : EReal) := by
  simp [Ideal.ofBits, Ideal.ieee, -EReal.coe_mul]; norm_num

/-- Half of a sum is the sum of the halves. -/
theorem half_add (a b : EReal) : Spec.lit 0x3F000000#32 * a + Spec.lit 0x3F000000#32 * b = Spec.lit 0x3F000000#32 * (a + b) := by
  rw [half_val]
  exact (EReal.left_distrib_of_nonneg_of_ne_top (by norm_num) (EReal.coe_ne_top _) a b).symm

/-! ## The stages -/

variable {F : FTy → Type} [FloatOps F]

/-- The array, one reflected row on each side. -/
def pad1 (x : FVec F S32x720x512 .f32) : FVec F S32x722x512 .f32 :=
  let a := concatenate S32x721x512 1 [⟨S32x1x512, Host.reverse [1] (extractStridedSlice S32x1x512 ![0, 1, 0] x slices_S32x720x512_S32x1x512_0_1_0)⟩, ⟨S32x720x512, x⟩] concatenates_S32x1x512_S32x720x512_S32x721x512_d1
  concatenate S32x722x512 1 [⟨S32x721x512, a⟩, ⟨S32x1x512, Host.reverse [1] (extractStridedSlice S32x1x512 ![0, 719, 0] a slices_S32x721x512_S32x1x512_0_719_0)⟩] concatenates_S32x721x512_S32x1x512_S32x722x512_d1

/-- The array, two reflected rows on each side. -/
def pad2 (x : FVec F S32x720x512 .f32) : FVec F S32x724x512 .f32 :=
  let a := concatenate S32x722x512 1 [⟨S32x2x512, Host.reverse [1] (extractStridedSlice S32x2x512 ![0, 1, 0] x slices_S32x720x512_S32x2x512_0_1_0)⟩, ⟨S32x720x512, x⟩] concatenates_S32x2x512_S32x720x512_S32x722x512_d1
  concatenate S32x724x512 1 [⟨S32x722x512, a⟩, ⟨S32x2x512, Host.reverse [1] (extractStridedSlice S32x2x512 ![0, 719, 0] a slices_S32x722x512_S32x2x512_0_719_0)⟩] concatenates_S32x722x512_S32x2x512_S32x724x512_d1

/-- One half, everywhere. -/
def halves : FVec F S32x720x512 .f32 := broadcastInDim S32x720x512 ![] bcast_S_S32x720x512 (constant S_ .f32 0x3F000000#32)

/-- The first approximation. -/
def A1 (x : FVec F S32x720x512 .f32) : FVec F S32x720x512 .f32 :=
  addf (mulf halves (extractStridedSlice S32x720x512 ![0, 0, 0] (pad1 x) slices_S32x722x512_S32x720x512_0_0_0))
    (mulf halves (extractStridedSlice S32x720x512 ![0, 1, 0] (pad1 x) slices_S32x722x512_S32x720x512_0_1_0))

/-- The second approximation. -/
def A2 (x : FVec F S32x720x512 .f32) : FVec F S32x720x512 .f32 :=
  addf (mulf halves (extractStridedSlice S32x720x512 ![0, 0, 0] (pad1 x) slices_S32x722x512_S32x720x512_0_0_0))
    (mulf halves (extractStridedSlice S32x720x512 ![0, 2, 0] (pad1 x) slices_S32x722x512_S32x720x512_0_2_0))

/-- The third approximation. -/
def A3 (x : FVec F S32x720x512 .f32) : FVec F S32x720x512 .f32 :=
  addf (mulf halves (extractStridedSlice S32x720x512 ![0, 0, 0] (pad2 x) slices_S32x724x512_S32x720x512_0_0_0))
    (mulf halves (extractStridedSlice S32x720x512 ![0, 4, 0] (pad2 x) slices_S32x724x512_S32x720x512_0_4_0))

/-- The rows in patches. -/
def patches (u : FVec F S32x720x512 .f32) : FVec F S32x30x24x512 .f32 := shapeCast S32x30x24x512 u shapeCasts_S32x720x512_S32x30x24x512

/-- A sum over the places of each patch. -/
def psum (u : FVec F S32x30x24x512 .f32) : FVec F S32x30x512 .f32 :=
  Host.reduceAdd u (constant S_ .f32 0x00000000#32) reducesTo_S32x30x24x512_S32x30x512_d2 h_S_

/-- Each patch's mean. -/
def Mean (u : FVec F S32x720x512 .f32) : FVec F S32x30x512 .f32 :=
  Host.divf (psum (patches u)) (broadcastInDim S32x30x512 ![] bcast_S_S32x30x512 (constant S_ .f32 0x41C00000#32))

/-- Each place less its patch's mean. -/
def Cen (u : FVec F S32x720x512 .f32) : FVec F S32x30x24x512 .f32 :=
  subf (patches u) (broadcastInDim S32x30x24x512 ![0, 1, 2, 3] bcast_S32x30x1x512_S32x30x24x512_0_1_2_3
    (Host.divf (broadcastInDim S32x30x1x512 ![0, 1, 3] bcast_S32x30x512_S32x30x1x512_0_1_3 (psum (patches u)))
      (broadcastInDim S32x30x1x512 ![] bcast_S_S32x30x1x512 (constant S_ .f32 0x41C00000#32))))

/-- Each patch's deviation. -/
def Sdev (u : FVec F S32x720x512 .f32) : FVec F S32x30x512 .f32 :=
  maximumf (Host.sqrt (Host.divf (psum (mulf (Cen u) (Cen u)))
      (broadcastInDim S32x30x512 ![] bcast_S_S32x30x512 (constant S_ .f32 0x41B80000#32))))
    (broadcastInDim S32x30x512 ![] bcast_S_S32x30x512 (constant S_ .f32 0x3A83126F#32))

/-- Each patch's energy. -/
def Energy (u : FVec F S32x720x512 .f32) : FVec F S32x30x512 .f32 :=
  Host.divf (psum (mulf (patches u) (patches u))) (broadcastInDim S32x30x512 ![] bcast_S_S32x30x512 (constant S_ .f32 0x41C00000#32))

/-- The high band's share of each patch's energy. -/
def Rho (l h a b : FVec F S32x720x512 .f32) : FVec F S32x30x512 .f32 :=
  Host.divf (Energy h) (addf (addf (addf (Energy l) (Energy h)) (addf (Energy a) (Energy b)))
    (broadcastInDim S32x30x512 ![] bcast_S_S32x30x512 (constant S_ .f32 0x358637BD#32)))

/-- A sum over each column. -/
def csum (u : FVec F S32x720x512 .f32) : FVec F S32x512 .f32 :=
  Host.reduceAdd u (constant S_ .f32 0x00000000#32) reducesTo_S32x720x512_S32x512_d1 h_S_

/-- Each column's mean. -/
def GMean (u : FVec F S32x720x512 .f32) : FVec F S32x512 .f32 :=
  Host.divf (csum u) (broadcastInDim S32x512 ![] bcast_S_S32x512 (constant S_ .f32 0x44340000#32))

/-- Each place less its column's mean. -/
def GCen (u : FVec F S32x720x512 .f32) : FVec F S32x720x512 .f32 :=
  subf u (broadcastInDim S32x720x512 ![0, 1, 2] bcast_S32x1x512_S32x720x512_0_1_2
    (Host.divf (broadcastInDim S32x1x512 ![0, 2] bcast_S32x512_S32x1x512_0_2 (csum u))
      (broadcastInDim S32x1x512 ![] bcast_S_S32x1x512 (constant S_ .f32 0x44340000#32))))

/-- Each column's deviation. -/
def GDev (u : FVec F S32x720x512 .f32) : FVec F S32x512 .f32 :=
  maximumf (Host.sqrt (Host.divf (csum (mulf (GCen u) (GCen u)))
      (broadcastInDim S32x512 ![] bcast_S_S32x512 (constant S_ .f32 0x4433C000#32))))
    (broadcastInDim S32x512 ![] bcast_S_S32x512 (constant S_ .f32 0x3A83126F#32))

/-- A feature of each patch, as one row of the stack. -/
def row (v : FVec F S32x30x512 .f32) : FVec F S32x30x1x512 .f32 :=
  broadcastInDim S32x30x1x512 ![0, 1, 3] bcast_S32x30x512_S32x30x1x512_0_1_3 v

/-- A feature of each column, at each of its patches. -/
def rep (v : FVec F S32x512 .f32) : FVec F S32x30x512 .f32 :=
  broadcastInDim S32x30x512 ![0, 1, 2] bcast_S32x1x512_S32x30x512_0_1_2 (broadcastInDim S32x1x512 ![0, 2] bcast_S32x512_S32x1x512_0_2 v)

/-- The stack of the seven features. -/
def Feat (mu s1 s2 s3 rho : FVec F S32x30x512 .f32) (gm gd : FVec F S32x512 .f32) : FVec F S32x30x7x512 .f32 :=
  concatenate S32x30x7x512 2 [⟨S32x30x1x512, row mu⟩, ⟨S32x30x1x512, row (Host.log s1)⟩, ⟨S32x30x1x512, row (Host.log s2)⟩,
    ⟨S32x30x1x512, row (Host.log s3)⟩, ⟨S32x30x1x512, row rho⟩, ⟨S32x30x1x512, row (rep gm)⟩, ⟨S32x30x1x512, row (rep (Host.log gd))⟩]
    concatenates_S32x30x1x512_S32x30x1x512_S32x30x1x512_S32x30x1x512_S32x30x1x512_S32x30x1x512_S32x30x1x512_S32x30x7x512_d2

/-- The last patch's first four features. -/
def Last (f : FVec F S32x30x7x512 .f32) : FVec F S32x4x512 .f32 :=
  shapeCast S32x4x512 (extractStridedSlice S32x1x4x512 ![0, 29, 0, 0] f slices_S32x30x7x512_S32x1x4x512_0_29_0_0) shapeCasts_S32x1x4x512_S32x4x512

/-- The input's gates of the history. -/
def EncG (f : FVec F S32x30x7x512 .f32) (W : FVec F S768x7 .f32) (b : FVec F S768 .f32) : FVec F S30x16384x768 .f32 :=
  addf (Host.dotGeneral dot_S30x16384x7_S7x768_S30x16384x768_2_0_01_1_n_n none
      (shapeCast S30x16384x7 (transpose S30x32x512x7 [1, 0, 3, 2] f transposes_S32x30x7x512_S30x32x512x7_1_0_3_2) shapeCasts_S30x32x512x7_S30x16384x7)
      (transpose S7x768 [1, 0] W transposes_S768x7_S7x768_1_0))
    (broadcastInDim S30x16384x768 ![0, 1, 2] bcast_S1x1x768_S30x16384x768_0_1_2 (broadcastInDim S1x1x768 ![2] bcast_S768_S1x1x768_2 b))

/-- The input's gates of the future. -/
def DecG (fe : FVec F S14x16 .f32) (W : FVec F S768x16 .f32) (b : FVec F S768 .f32) : FVec F S14x16384x768 .f32 :=
  broadcastInDim S14x16384x768 ![0, 1, 2] bcast_S14x1x768_S14x16384x768_0_1_2 (broadcastInDim S14x1x768 ![0, 2] bcast_S14x768_S14x1x768_0_2
    (addf (Host.dotGeneral dot_S14x16_S16x768_S14x768_1_0_0_1_n_n none fe (transpose S16x768 [1, 0] W transposes_S768x16_S16x768_1_0))
      (broadcastInDim S14x768 ![0, 1] bcast_S1x768_S14x768_0_1 (broadcastInDim S1x768 ![1] bcast_S768_S1x768_1 b))))

/-- The input's gates, the history's then the future's. -/
def AllG (f : FVec F S32x30x7x512 .f32) (W : FVec F S768x7 .f32) (b : FVec F S768 .f32) (fe : FVec F S14x16 .f32) (W' : FVec F S768x16 .f32)
    (b' : FVec F S768 .f32) : FVec F S44x16384x768 .f32 :=
  concatenate S44x16384x768 0 [⟨S30x16384x768, EncG f W b⟩, ⟨S14x16384x768, DecG fe W' b'⟩] concatenates_S30x16384x768_S14x16384x768_S44x16384x768_d0

/-- The prediction from the hidden states. -/
def Pred (hs : FVec F S44x16384x256 .f32) (W : FVec F S4x256 .f32) (b : FVec F S4 .f32) (last : FVec F S32x4x512 .f32) : FVec F S32x14x4x512 .f32 :=
  addf (broadcastInDim S32x14x4x512 ![0, 1, 2, 3] bcast_S32x1x4x512_S32x14x4x512_0_1_2_3 (broadcastInDim S32x1x4x512 ![0, 2, 3] bcast_S32x4x512_S32x1x4x512_0_2_3 last))
    (transpose S32x14x4x512 [1, 0, 3, 2] (shapeCast S14x32x512x4
      (addf (Host.dotGeneral dot_S14x16384x256_S256x4_S14x16384x4_2_0_01_1_n_n none
          (extractStridedSlice S14x16384x256 ![30, 0, 0] hs slices_S44x16384x256_S14x16384x256_30_0_0) (transpose S256x4 [1, 0] W transposes_S4x256_S256x4_1_0))
        (broadcastInDim S14x16384x4 ![0, 1, 2] bcast_S1x1x4_S14x16384x4_0_1_2 (broadcastInDim S1x1x4 ![2] bcast_S4_S1x1x4_2 b)))
      shapeCasts_S14x16384x4_S14x32x512x4) transposes_S14x32x512x4_S32x14x4x512_1_0_3_2)

/-- Each patch's statistic, at each of its places. -/
def spread (v : FVec F S32x30x512 .f32) : FVec F S32x30x24x512 .f32 :=
  broadcastInDim S32x30x24x512 ![0, 1, 2, 3] bcast_S32x30x1x512_S32x30x24x512_0_1_2_3 (row v)

/-- The normalised array. -/
def XNorm (l h a b : FVec F S32x720x512 .f32) (mu s1 s2 s3 : FVec F S32x30x512 .f32) : FVec F S32x720x512 .f32 :=
  shapeCast S32x720x512 (addf (addf (addf (Host.divf (subf (patches l) (spread mu)) (spread s1)) (patches h))
    (Host.divf (patches a) (spread s2))) (Host.divf (patches b) (spread s3))) shapeCasts_S32x30x24x512_S32x720x512

/-! ## The stages at an entry -/

/-- The column at row `b`, lane `c`. -/
def colOf (x : FVec Ideal S32x720x512 .f32) (b : Fin 32) (c : Fin 512) (t : Fin 720) : EReal := x (ix3 b t c)

/-- The first axis is not reversed. -/
theorem rev_none {n : ℕ} (a : Fin n) (u : Fin n) : (if (0 : Fin 3) ∈ ([1] : List (Fin 3)) then u else a) = a := if_neg (by decide)
/-- The last axis is not reversed. -/
theorem rev_none' {n : ℕ} (a : Fin n) (u : Fin n) : (if (2 : Fin 3) ∈ ([1] : List (Fin 3)) then u else a) = a := if_neg (by decide)
/-- The middle axis is reversed. -/
theorem rev_some {n : ℕ} (a : Fin n) (u : Fin n) : (if (1 : Fin 3) ∈ ([1] : List (Fin 3)) then u else a) = u := if_pos (by decide)

set_option backward.isDefEq.respectTransparency false in
/-- Place `k` of the column once padded by one is a reflected place of it. -/
theorem pad1_at (x : FVec Ideal S32x720x512 .f32) (b : Fin 32) (k : Fin 722) (c : Fin 512) (t : Fin 720)
    (h : t.val = if k.val < 1 then 1 else if k.val < 721 then k.val - 1 else 718) :
    pad1 (F := Ideal) x (ix3 b k c) = x (ix3 b t c) := by
  pointwise [pad1]
  simp only [rev_none, rev_none']
  by_cases h0 : k.val < 721
  · rw [dif_pos h0]
    by_cases h1 : k.val < 1
    · rw [dif_pos h1]
      refine congrArg (fun t' => x (ix3 b t' c)) (Fin.ext ?_)
      rw [h, if_pos h1]; rfl
    · rw [dif_neg h1]
      refine congrArg (fun t' => x (ix3 b t' c)) (Fin.ext ?_)
      rw [h, if_neg h1, if_pos h0]
  · rw [dif_neg h0]
    refine congrArg (fun t' => x (ix3 b t' c)) (Fin.ext ?_)
    rw [h, if_neg (by omega), if_neg h0]; rfl

set_option backward.isDefEq.respectTransparency false in
/-- Place `k` of the column once padded by two is a reflected place of it. -/
theorem pad2_at (x : FVec Ideal S32x720x512 .f32) (b : Fin 32) (k : Fin 724) (c : Fin 512) (t : Fin 720)
    (h : t.val = if k.val < 2 then 2 - k.val else if k.val < 722 then k.val - 2 else 1440 - k.val) :
    pad2 (F := Ideal) x (ix3 b k c) = x (ix3 b t c) := by
  pointwise [pad2]
  simp only [rev_none, rev_none', rev_some]
  by_cases h0 : k.val < 722
  · rw [dif_pos h0]
    by_cases h1 : k.val < 2
    · rw [dif_pos h1]
      refine congrArg (fun t' => x (ix3 b t' c)) (Fin.ext ?_)
      rw [h, if_pos h1]
      show 1 + (2 - (k.val + 1)) = 2 - k.val
      omega
    · rw [dif_neg h1]
      refine congrArg (fun t' => x (ix3 b t' c)) (Fin.ext ?_)
      rw [h, if_neg h1, if_pos h0]
  · have hr : 719 + (2 - (k.val - 722 + 1)) - 2 = 1440 - k.val := by omega
    rw [dif_neg h0]
    refine (dif_neg (show ¬ 719 + (2 - (k.val - 722 + 1)) < 2 by omega)).trans ?_
    refine congrArg (fun t' => x (ix3 b t' c)) (Fin.ext ?_)
    refine hr.trans ?_
    rw [h, if_neg (by omega), if_neg h0]

/-- The first approximation. -/
theorem A1_at (x : FVec Ideal S32x720x512 .f32) (b : Fin 32) (t : Fin 720) (c : Fin 512) :
    A1 (F := Ideal) x (ix3 b t c) = Spec.a1 (colOf x b c) t := by
  pointwise [A1, halves]
  rw [pad1_at x b _ c (Spec.lft 1 t) (by show (if t.val < 1 then 1 - t.val else t.val - 1) = if t.val < 1 then 1 else if t.val < 721 then t.val - 1 else 718; split_ifs <;> omega),
    pad1_at x b _ c (Spec.rgt 0 t) (by show (if t.val + 0 < 720 then t.val + 0 else 1438 - (t.val + 0)) = if 1 + t.val < 1 then 1 else if 1 + t.val < 721 then 1 + t.val - 1 else 718; split_ifs <;> omega)]
  exact half_add _ _

/-- The second approximation, from the first. -/
theorem A2_at (x : FVec Ideal S32x720x512 .f32) (b : Fin 32) (t : Fin 720) (c : Fin 512) :
    A2 (F := Ideal) x (ix3 b t c) = Spec.band 1 1 (colOf x b c) t := by
  pointwise [A2, halves]
  rw [pad1_at x b _ c (Spec.lft 1 t) (by show (if t.val < 1 then 1 - t.val else t.val - 1) = if t.val < 1 then 1 else if t.val < 721 then t.val - 1 else 718; split_ifs <;> omega),
    pad1_at x b _ c (Spec.rgt 1 t) (by show (if t.val + 1 < 720 then t.val + 1 else 1438 - (t.val + 1)) = if 2 + t.val < 1 then 1 else if 2 + t.val < 721 then 2 + t.val - 1 else 718; split_ifs <;> omega)]
  exact half_add _ _

/-- The third approximation, from the second. -/
theorem A3_at (x : FVec Ideal S32x720x512 .f32) (b : Fin 32) (t : Fin 720) (c : Fin 512) :
    A3 (F := Ideal) x (ix3 b t c) = Spec.band 2 2 (colOf x b c) t := by
  pointwise [A3, halves]
  rw [pad2_at x b _ c (Spec.lft 2 t) (by show (if t.val < 2 then 2 - t.val else t.val - 2) = if t.val < 2 then 2 - t.val else if t.val < 722 then t.val - 2 else 1440 - t.val; split_ifs <;> omega),
    pad2_at x b _ c (Spec.rgt 2 t) (by show (if t.val + 2 < 720 then t.val + 2 else 1438 - (t.val + 2)) = if 4 + t.val < 2 then 2 - (4 + t.val) else if 4 + t.val < 722 then 4 + t.val - 2 else 1440 - (4 + t.val); split_ifs <;> omega)]
  exact half_add _ _

/-- A patch's mean. -/
theorem Mean_at (u : FVec Ideal S32x720x512 .f32) (b : Fin 32) (p : Fin 30) (c : Fin 512) :
    Mean (F := Ideal) u (ix3 b p c) = Spec.mean (colOf u b c) p := by
  pointwise [Mean, psum, patches]
  rfl

/-- A patch's deviation. -/
theorem Sdev_at (u : FVec Ideal S32x720x512 .f32) (b : Fin 32) (p : Fin 30) (c : Fin 512) :
    Sdev (F := Ideal) u (ix3 b p c) = Spec.dev (colOf u b c) p := by
  pointwise [Sdev, Cen, psum, patches]
  rw [c23_val, Ideal.div_coe (by norm_num)]
  rfl

/-- A patch's energy. -/
theorem Energy_at (u : FVec Ideal S32x720x512 .f32) (b : Fin 32) (p : Fin 30) (c : Fin 512) :
    Energy (F := Ideal) u (ix3 b p c) = Spec.energy (colOf u b c) p := by
  pointwise [Energy, psum, patches]
  rfl

/-- The high band's share. -/
theorem Rho_at (l h a d : FVec Ideal S32x720x512 .f32) (s : Fin 720 → EReal) (b : Fin 32) (p : Fin 30) (c : Fin 512)
    (hl : colOf l b c = Spec.a3 s) (hh : colOf h b c = Spec.hi s) (ha : colOf a b c = Spec.d2 s) (hd : colOf d b c = Spec.d3 s) :
    Rho (F := Ideal) l h a d (ix3 b p c) = Spec.rho s p := by
  pointwise [Rho, Energy_at, hl, hh, ha, hd]
  rw [← add_assoc (Spec.energy (Spec.a3 s) p + Spec.energy (Spec.hi s) p)]
  rfl

/-- A column's mean. -/
theorem GMean_at (u : FVec Ideal S32x720x512 .f32) (b : Fin 32) (c : Fin 512) :
    GMean (F := Ideal) u (ix2 b c) = Spec.gmean (colOf u b c) := by
  pointwise [GMean, csum]
  rfl

/-- A column's deviation. -/
theorem GDev_at (u : FVec Ideal S32x720x512 .f32) (b : Fin 32) (c : Fin 512) :
    GDev (F := Ideal) u (ix2 b c) = Spec.gdev (colOf u b c) := by
  pointwise [GDev, GCen, csum]
  rw [c719_val, Ideal.div_coe (by norm_num)]
  rfl

/-- The normalised array. -/
theorem XNorm_at (l h a d : FVec Ideal S32x720x512 .f32) (s : Fin 720 → EReal) (b : Fin 32) (t : Fin 720) (c : Fin 512)
    (hl : colOf l b c = Spec.a3 s) (hh : colOf h b c = Spec.hi s) (ha : colOf a b c = Spec.d2 s) (hd : colOf d b c = Spec.d3 s) :
    XNorm (F := Ideal) l h a d (Mean l) (Sdev l) (Sdev a) (Sdev d) (ix3 b t c) = Spec.xnorm s t := by
  have el : l (ix3 b t c) = Spec.a3 s t := congrFun hl t
  have eh : h (ix3 b t c) = Spec.hi s t := congrFun hh t
  have ea : a (ix3 b t c) = Spec.d2 s t := congrFun ha t
  have ed : d (ix3 b t c) = Spec.d3 s t := congrFun hd t
  pointwise [XNorm, spread, row, patches, Mean_at, Sdev_at, hl, ha, hd, el, eh, ea, ed]
  rfl

set_option maxHeartbeats 1600000 in
/-- The stack of the features, at an entry. -/
theorem Feat_at (l h a d : FVec Ideal S32x720x512 .f32) (s : Fin 720 → EReal) (b : Fin 32) (p : Fin 30) (f : Fin 7) (c : Fin 512)
    (hl : colOf l b c = Spec.a3 s) (hh : colOf h b c = Spec.hi s) (ha : colOf a b c = Spec.d2 s) (hd : colOf d b c = Spec.d3 s) :
    Feat (F := Ideal) (Mean l) (Sdev l) (Sdev a) (Sdev d) (Rho l h a d) (GMean l) (GDev l) (ix4 b p f c) = Spec.feat s p f := by
  have er := Rho_at l h a d s b p c hl hh ha hd
  pointwise [Feat, row, rep, Mean_at, Sdev_at, GMean_at, GDev_at, hl, ha, hd, er]
  fin_vals f with hk
  all_goals simp only [hk, Nat.reduceSub, Nat.reduceLT, ↓reduceDIte]
  · obtain rfl : f = 0 := Fin.ext hk
    rfl
  · obtain rfl : f = 1 := Fin.ext hk
    rfl
  · obtain rfl : f = 2 := Fin.ext hk
    rfl
  · obtain rfl : f = 3 := Fin.ext hk
    rfl
  · obtain rfl : f = 4 := Fin.ext hk
    rfl
  · obtain rfl : f = 5 := Fin.ext hk
    rfl
  · obtain rfl : f = 6 := Fin.ext hk
    rfl

/-- The last patch's features, at an entry. -/
theorem Last_at (g : FVec Ideal S32x30x7x512 .f32) (s : Fin 720 → EReal) (b : Fin 32) (o : Fin 4) (c : Fin 512)
    (hg : ∀ p f, g (ix4 b p f c) = Spec.feat s p f) : Last (F := Ideal) g (ix3 b o c) = Spec.stat s 29 o := by
  pointwise [Last, hg]
  fin_vals o with hk
  · obtain rfl : o = 0 := Fin.ext hk
    rfl
  · obtain rfl : o = 1 := Fin.ext hk
    rfl
  · obtain rfl : o = 2 := Fin.ext hk
    rfl
  · obtain rfl : o = 3 := Fin.ext hk
    rfl

/-- The history's gates, at an entry. -/
theorem EncG_at (g : FVec Ideal S32x30x7x512 .f32) (W : FVec Ideal S768x7 .f32) (bi : FVec Ideal S768 .f32)
    (s : Fin 16384 → Fin 720 → EReal)
    (hg : ∀ (n : Fin 16384) p f, g (ix4 ⟨n.val / 512, by omega⟩ p f ⟨n.val % 512, by omega⟩) = Spec.feat (s n) p f)
    (t : Fin 30) (n : Fin 16384) (k : Fin 768) :
    EncG (F := Ideal) g W bi (ix3 t n k) = Spec.lin (fun k f => W (ix2 k f)) (fun k => bi (ix1 k)) (Spec.feat (s n) t) k := by
  pointwise [EncG, hg]
  exact Ideal.add_congr (Finset.sum_congr rfl fun f _ => mul_comm _ _) rfl

/-- The future's gates, at an entry. -/
theorem DecG_at (fe : FVec Ideal S14x16 .f32) (W : FVec Ideal S768x16 .f32) (bi : FVec Ideal S768 .f32)
    (t : Fin 14) (n : Fin 16384) (k : Fin 768) :
    DecG (F := Ideal) fe W bi (ix3 t n k) = Spec.lin (fun k f => W (ix2 k f)) (fun k => bi (ix1 k)) (fun f => fe (ix2 t f)) k := by
  pointwise [DecG]
  exact Ideal.add_congr (Finset.sum_congr rfl fun f _ => mul_comm _ _) rfl

/-- The prediction, at an entry. -/
theorem Pred_at (hs : FVec Ideal S44x16384x256 .f32) (W : FVec Ideal S4x256 .f32) (bi : FVec Ideal S4 .f32) (last : FVec Ideal S32x4x512 .f32)
    (b : Fin 32) (t : Fin 14) (o : Fin 4) (c : Fin 512) :
    Pred (F := Ideal) hs W bi last (ix4 b t o c)
      = Spec.lin (fun o k => W (ix2 o k)) (fun o => bi (ix1 o)) (fun k => hs (ix3 ⟨30 + t.val, by omega⟩ ⟨b.val * 512 + c.val, by omega⟩ k)) o
        + last (ix3 b o c) := by
  pointwise [Pred]
  rw [add_comm]
  exact Ideal.add_congr (Ideal.add_congr (Finset.sum_congr rfl fun f _ => mul_comm _ _) rfl) rfl

end Cert.Proof.R

end
-- ==== Proof.RPre.lean ====
/-
  What the reference computes before its recurrence, read off its operations.
-/
module

public import proofs.«01_k».proof.Proof.RVal
public import Idealize.ShloMosaic.Lib.StableHlo.RunRead

@[expose] public section

set_option maxRecDepth 16384

noncomputable section

namespace Cert.Proof.R

open Cert.ReferenceIdeal Cert.ReferenceIdeal.Gen Cert.ReferenceIdeal.Value
open Idealize.ShloMosaic Idealize.ShloMosaic.TcCoe Idealize.ShloMosaic.Tactic Idealize.ShloMosaic.StableHlo
open Idealize.SL.Sem

variable {F : FTy → Type} [FloatOps F]

/-- The first approximation is computed from the argument. -/
theorem low1 (V : Valuation τ sig (Elt F)) : after hostOps0_2 (after hostOps0_1 V) (Proc.devRef .tc main_v7) = A1 (V (Proc.devRef .tc main_arg0)) := by
  after_reads_simp
  rfl

/-- The first difference is computed from the argument. -/
theorem high1 (V : Valuation τ sig (Elt F)) : after hostOps0_2 (after hostOps0_1 V) (Proc.devRef .tc main_v8) = subf (V (Proc.devRef .tc main_arg0)) (A1 (V (Proc.devRef .tc main_arg0))) := by
  after_reads_simp
  rfl

/-- The second approximation is computed from the first. -/
theorem low2 (V : Valuation τ sig (Elt F)) : after hostOps0_4 (after hostOps0_3 V) (Proc.devRef .tc main_v16) = A2 (V (Proc.devRef .tc main_v7)) := by
  after_reads_simp
  rfl

/-- The second difference is computed from the first approximation. -/
theorem high2 (V : Valuation τ sig (Elt F)) : after hostOps0_4 (after hostOps0_3 V) (Proc.devRef .tc main_v17) = subf (V (Proc.devRef .tc main_v7)) (A2 (V (Proc.devRef .tc main_v7))) := by
  after_reads_simp
  rfl

/-- The third band's operations. -/
abbrev opsA : List (HloOp τ sig (Elt F)) := (hostOps0_6 (F := F)).take 10
/-- The statistics' operations. -/
abbrev opsB : List (HloOp τ sig (Elt F)) := ((hostOps0_6 (F := F)).drop 10).take 121
/-- The stack's operations. -/
abbrev opsC : List (HloOp τ sig (Elt F)) := ((hostOps0_6 (F := F)).drop 131).take 16
/-- The gates' operations. -/
abbrev opsD : List (HloOp τ sig (Elt F)) := (hostOps0_6 (F := F)).drop 147

/-- The third approximation is computed from the second. -/
theorem low3 (V : Valuation τ sig (Elt F)) : after opsA (after hostOps0_5 V) (Proc.devRef .tc main_v25) = A3 (V (Proc.devRef .tc main_v16)) := by
  after_reads_simp
  rfl

/-- The third difference is computed from the second approximation. -/
theorem high3 (V : Valuation τ sig (Elt F)) : after opsA (after hostOps0_5 V) (Proc.devRef .tc main_v26) = subf (V (Proc.devRef .tc main_v16)) (A3 (V (Proc.devRef .tc main_v16))) := by
  after_reads_simp
  rfl

/-- Each patch's mean. -/
theorem mean4 (V : Valuation τ sig (Elt F)) : after opsB V (Proc.devRef .tc main_v30) = Mean (V (Proc.devRef .tc main_v25)) := by
  after_reads_simp
  rfl

/-- Each patch's deviation. -/
theorem devA4 (V : Valuation τ sig (Elt F)) : after opsB V (Proc.devRef .tc main_v44) = Sdev (V (Proc.devRef .tc main_v25)) := by
  after_reads_simp
  rfl

/-- Each patch's deviation in the second difference. -/
theorem devB4 (V : Valuation τ sig (Elt F)) : after opsB V (Proc.devRef .tc main_v58) = Sdev (V (Proc.devRef .tc main_v17)) := by
  after_reads_simp
  rfl

/-- Each patch's deviation in the third difference. -/
theorem devC4 (V : Valuation τ sig (Elt F)) : after opsB V (Proc.devRef .tc main_v72) = Sdev (V (Proc.devRef .tc main_v26)) := by
  after_reads_simp
  rfl

/-- The first difference's share of each patch's energy. -/
theorem rho4 (V : Valuation τ sig (Elt F)) : after opsB V (Proc.devRef .tc main_v98) = Rho (V (Proc.devRef .tc main_v25)) (V (Proc.devRef .tc main_v8)) (V (Proc.devRef .tc main_v17)) (V (Proc.devRef .tc main_v26)) := by
  after_reads_simp
  rfl

/-- Each column's mean. -/
theorem gmean4 (V : Valuation τ sig (Elt F)) : after opsB V (Proc.devRef .tc main_v101) = GMean (V (Proc.devRef .tc main_v25)) := by
  after_reads_simp
  rfl

/-- Each column's deviation. -/
theorem gdev4 (V : Valuation τ sig (Elt F)) : after opsB V (Proc.devRef .tc main_v114) = GDev (V (Proc.devRef .tc main_v25)) := by
  after_reads_simp
  rfl

/-- The stack of the features. -/
theorem feat5 (V : Valuation τ sig (Elt F)) : after opsC V (Proc.devRef .tc main_v130) = Feat (V (Proc.devRef .tc main_v30)) (V (Proc.devRef .tc main_v44)) (V (Proc.devRef .tc main_v58)) (V (Proc.devRef .tc main_v72)) (V (Proc.devRef .tc main_v98)) (V (Proc.devRef .tc main_v101)) (V (Proc.devRef .tc main_v114)) := by
  after_reads_simp
  rfl

/-- The last patch's statistics. -/
theorem last6 (V : Valuation τ sig (Elt F)) : after opsD V (Proc.devRef .tc main_v132) = Last (V (Proc.devRef .tc main_v130)) := by
  after_reads_simp
  rfl

/-- The input's gates at every step. -/
theorem gates6 (V : Valuation τ sig (Elt F)) : after opsD V (Proc.devRef .tc main_v151_1) = AllG (V (Proc.devRef .tc main_v130)) (V (Proc.devRef .tc main_arg1)) (V (Proc.devRef .tc main_arg3)) (V (Proc.devRef .tc main_arg9)) (V (Proc.devRef .tc main_arg5)) (V (Proc.devRef .tc main_arg7)) := by
  after_reads_simp
  rfl

/-- The steps' numbers. -/
theorem iota6 (V : Valuation τ sig (Elt F)) : after opsD V (Proc.devRef .tc main_v151_0) = iotaInDim S44 32 0 := by
  after_reads_simp
  rfl

/-- The weights carried through the steps. -/
theorem carry6 (V : Valuation τ sig (Elt F)) :
    after opsD V (Proc.devRef .tc main_v151_2) = V (Proc.devRef .tc main_arg2)
    ∧ after opsD V (Proc.devRef .tc main_v151_3) = V (Proc.devRef .tc main_arg6)
    ∧ after opsD V (Proc.devRef .tc main_v151_4) = V (Proc.devRef .tc main_arg4)
    ∧ after opsD V (Proc.devRef .tc main_v151_5) = V (Proc.devRef .tc main_arg8) := by
  refine ⟨?_, ?_, ?_, ?_⟩ <;> (after_reads_simp; rfl)

/-- The hidden state starts at zero. -/
theorem start6 (V : Valuation τ sig (Elt F)) : after opsD V (Proc.devRef .tc main_v151_7) = (broadcastInDim S16384x256 ![] bcast_S_S16384x256 (constant S_ .f32 0x00000000#32)) := by
  after_reads_simp
  rfl

end Cert.Proof.R

end
-- ==== Proof.RFold.lean ====
/-
  The reference's buffers at its recurrence and at its end, as functions of its arguments.
-/
module

public import proofs.«01_k».proof.Proof.RPre
public import Idealize.ShloMosaic.Lib.StableHlo.RunRead

@[expose] public section

set_option maxRecDepth 16384

noncomputable section

namespace Cert.Proof.R

open Cert.ReferenceIdeal Cert.ReferenceIdeal.Gen Cert.ReferenceIdeal.Value
open Idealize.ShloMosaic Idealize.ShloMosaic.TcCoe Idealize.ShloMosaic.Tactic Idealize.ShloMosaic.StableHlo
open Idealize.SL.Sem

variable {F : FTy → Type} [FloatOps F]

/-! ## What each stretch leaves alone -/

/-- The buffers the first stretches write. -/
abbrev W1 : List (Ref sig .tc) := hostOps0_W ++ hostOps0_1_W ++ hostOps0_2_W
/-- The buffers the second stretches write. -/
abbrev W2 : List (Ref sig .tc) := hostOps0_3_W ++ hostOps0_4_W
/-- The buffers the third stretches write. -/
abbrev W3 : List (Ref sig .tc) := hostOps0_5_W ++ hostOps0_6_W.take 10
/-- The buffers the statistics' operations write. -/
abbrev W4 : List (Ref sig .tc) := (hostOps0_6_W.drop 10).take 121
/-- The buffers the stack's operations write. -/
abbrev W5 : List (Ref sig .tc) := (hostOps0_6_W.drop 131).take 16
/-- The buffers the gates' operations write. -/
abbrev W6 : List (Ref sig .tc) := hostOps0_6_W.drop 147

/-- The contents after the first approximation. -/
abbrev at1 (V : Valuation τ sig (Elt F)) : Valuation τ sig (Elt F) := after hostOps0_2 (after hostOps0_1 (after hostOps0 V))
/-- The contents after the second approximation. -/
abbrev at2 (V : Valuation τ sig (Elt F)) : Valuation τ sig (Elt F) := after hostOps0_4 (after hostOps0_3 V)
/-- The contents after the third approximation. -/
abbrev at3 (V : Valuation τ sig (Elt F)) : Valuation τ sig (Elt F) := after opsA (after hostOps0_5 V)

/-- The first stretches keep what they do not write. -/
theorem keep1 (V : Valuation τ sig (Elt F)) (r : Ref sig .tc) (h : r ∉ W1) : at1 V (Proc.devRef .tc r) = V (Proc.devRef .tc r) := by
  simp only [W1, List.mem_append, not_or] at h
  exact (after_of_writes_sub hostOps0_2 _ hostOps0_2_writes h.2).trans
    ((after_of_writes_sub hostOps0_1 _ hostOps0_1_writes h.1.2).trans (after_of_writes_sub hostOps0 _ hostOps0_writes h.1.1))

/-- The second stretches keep what they do not write. -/
theorem keep2 (V : Valuation τ sig (Elt F)) (r : Ref sig .tc) (h : r ∉ W2) : at2 V (Proc.devRef .tc r) = V (Proc.devRef .tc r) := by
  simp only [W2, List.mem_append, not_or] at h
  exact (after_of_writes_sub hostOps0_4 _ hostOps0_4_writes h.2).trans (after_of_writes_sub hostOps0_3 _ hostOps0_3_writes h.1)

/-- The third stretches keep what they do not write. -/
theorem keep3 (V : Valuation τ sig (Elt F)) (r : Ref sig .tc) (h : r ∉ W3) : at3 V (Proc.devRef .tc r) = V (Proc.devRef .tc r) := by
  have h' := not_or.mp (fun e => h (List.mem_append.mpr e))
  exact (after_of_writes_sub (W := hostOps0_6_W.take 10) opsA _ (StableHlo.forall_writes_sub_of_map rfl) h'.2).trans
    (after_of_writes_sub hostOps0_5 _ hostOps0_5_writes h'.1)

/-- The statistics' operations keep what they do not write. -/
theorem keep4 (V : Valuation τ sig (Elt F)) (r : Ref sig .tc) (h : r ∉ W4) : after opsB V (Proc.devRef .tc r) = V (Proc.devRef .tc r) :=
  after_of_writes_sub (W := W4) opsB _ (StableHlo.forall_writes_sub_of_map rfl) h

/-- The stack's operations keep what they do not write. -/
theorem keep5 (V : Valuation τ sig (Elt F)) (r : Ref sig .tc) (h : r ∉ W5) : after opsC V (Proc.devRef .tc r) = V (Proc.devRef .tc r) :=
  after_of_writes_sub (W := W5) opsC _ (StableHlo.forall_writes_sub_of_map rfl) h

/-- The gates' operations keep what they do not write. -/
theorem keep6 (V : Valuation τ sig (Elt F)) (r : Ref sig .tc) (h : r ∉ W6) : after opsD V (Proc.devRef .tc r) = V (Proc.devRef .tc r) :=
  after_of_writes_sub (W := W6) opsD _ (StableHlo.forall_writes_sub_of_map rfl) h

/-- The contents at the recurrence's start, from the contents at launch. -/
def start (V : Valuation τ sig (Elt F)) : Valuation τ sig (Elt F) := after opsD (after opsC (after opsB (at3 (at2 (at1 V)))))

/-- The operations of the last stretch before the recurrence, in their four parts. -/
theorem ops_cut : (hostOps0_6 : List (HloOp τ sig (Elt F))) = opsA ++ (opsB ++ (opsC ++ opsD)) := rfl

variable (m : (ℓ : Loc nD τ sig) → Buf (Elt F) ℓ)

/-- Two lists of operations, one after the other. -/
theorem after_app (l₁ l₂ : List (HloOp τ sig (Elt F))) (V : Valuation τ sig (Elt F)) : after (l₁ ++ l₂) V = after l₂ (after l₁ V) := by
  induction l₁ generalizing V with
  | nil => rfl
  | cons op l ih => exact ih _

/-- The recurrence starts from the stages' contents. -/
theorem entry_eq (c : Dev nD) : entryContents preI m c = start (fun b => m (c, b)) := by
  show after hostOps0_6 (after hostOps0_5 (at2 (at1 _))) = _
  rw [ops_cut, after_app, after_app, after_app]
  rfl

/-! ## The arrays before the recurrence -/

/-- The first difference. -/
def H1 (x : FVec F S32x720x512 .f32) : FVec F S32x720x512 .f32 := subf x (A1 x)
/-- The second approximation of the array. -/
def L2 (x : FVec F S32x720x512 .f32) : FVec F S32x720x512 .f32 := A2 (A1 x)
/-- The second difference. -/
def H2 (x : FVec F S32x720x512 .f32) : FVec F S32x720x512 .f32 := subf (A1 x) (L2 x)
/-- The third approximation of the array. -/
def L3 (x : FVec F S32x720x512 .f32) : FVec F S32x720x512 .f32 := A3 (L2 x)
/-- The third difference. -/
def H3 (x : FVec F S32x720x512 .f32) : FVec F S32x720x512 .f32 := subf (L2 x) (L3 x)
/-- The stack of the features of the array. -/
def FeatX (x : FVec F S32x720x512 .f32) : FVec F S32x30x7x512 .f32 :=
  Feat (Mean (L3 x)) (Sdev (L3 x)) (Sdev (H2 x)) (Sdev (H3 x)) (Rho (L3 x) (H1 x) (H2 x) (H3 x)) (GMean (L3 x)) (GDev (L3 x))

/-- The first approximation, after its stretches. -/
theorem v7_1 (V : Valuation τ sig (Elt F)) : (at1 V) (Proc.devRef .tc main_v7) = A1 (V (Proc.devRef .tc main_arg0)) := by
  refine (low1 (after hostOps0 V)).trans ?_
  rw [after_of_writes_sub hostOps0 V hostOps0_writes (by decide)]

/-- The first difference, after its stretches. -/
theorem v8_1 (V : Valuation τ sig (Elt F)) : (at1 V) (Proc.devRef .tc main_v8) = H1 (V (Proc.devRef .tc main_arg0)) := by
  refine (high1 (after hostOps0 V)).trans ?_
  rw [after_of_writes_sub hostOps0 V hostOps0_writes (by decide)]
  rfl

/-- The second approximation, after its stretches. -/
theorem v16_2 (V : Valuation τ sig (Elt F)) : (at2 (at1 V)) (Proc.devRef .tc main_v16) = L2 (V (Proc.devRef .tc main_arg0)) := by
  refine (low2 (at1 V)).trans ?_
  rw [v7_1]
  rfl

/-- The second difference, after its stretches. -/
theorem v17_2 (V : Valuation τ sig (Elt F)) : (at2 (at1 V)) (Proc.devRef .tc main_v17) = H2 (V (Proc.devRef .tc main_arg0)) := by
  refine (high2 (at1 V)).trans ?_
  rw [v7_1]
  rfl

/-- The third approximation, after its stretches. -/
theorem v25_3 (V : Valuation τ sig (Elt F)) : (at3 (at2 (at1 V))) (Proc.devRef .tc main_v25) = L3 (V (Proc.devRef .tc main_arg0)) := by
  refine (low3 (at2 (at1 V))).trans ?_
  rw [v16_2]
  rfl

/-- The third difference, after its stretches. -/
theorem v26_3 (V : Valuation τ sig (Elt F)) : (at3 (at2 (at1 V))) (Proc.devRef .tc main_v26) = H3 (V (Proc.devRef .tc main_arg0)) := by
  refine (high3 (at2 (at1 V))).trans ?_
  rw [v16_2]
  rfl

/-- The first difference stays. -/
theorem v8_3 (V : Valuation τ sig (Elt F)) : (at3 (at2 (at1 V))) (Proc.devRef .tc main_v8) = H1 (V (Proc.devRef .tc main_arg0)) := by
  exact (keep3 (at2 (at1 V)) main_v8 (by decide +kernel)).trans ((keep2 (at1 V) main_v8 (by decide +kernel)).trans (v8_1 V))

/-- The second difference stays. -/
theorem v17_3 (V : Valuation τ sig (Elt F)) : (at3 (at2 (at1 V))) (Proc.devRef .tc main_v17) = H2 (V (Proc.devRef .tc main_arg0)) := by
  exact (keep3 (at2 (at1 V)) main_v17 (by decide +kernel)).trans (v17_2 V)

/-- A statistic, after its stretch. -/
theorem v30_4 (V : Valuation τ sig (Elt F)) : (after opsB (at3 (at2 (at1 V)))) (Proc.devRef .tc main_v30) = Mean (L3 (V (Proc.devRef .tc main_arg0))) := by
  refine (mean4 (at3 (at2 (at1 V)))).trans ?_
  rw [v25_3]

/-- A statistic, after its stretch. -/
theorem v44_4 (V : Valuation τ sig (Elt F)) : (after opsB (at3 (at2 (at1 V)))) (Proc.devRef .tc main_v44) = Sdev (L3 (V (Proc.devRef .tc main_arg0))) := by
  refine (devA4 (at3 (at2 (at1 V)))).trans ?_
  rw [v25_3]

/-- A statistic, after its stretch. -/
theorem v58_4 (V : Valuation τ sig (Elt F)) : (after opsB (at3 (at2 (at1 V)))) (Proc.devRef .tc main_v58) = Sdev (H2 (V (Proc.devRef .tc main_arg0))) := by
  refine (devB4 (at3 (at2 (at1 V)))).trans ?_
  rw [v17_3]

/-- A statistic, after its stretch. -/
theorem v72_4 (V : Valuation τ sig (Elt F)) : (after opsB (at3 (at2 (at1 V)))) (Proc.devRef .tc main_v72) = Sdev (H3 (V (Proc.devRef .tc main_arg0))) := by
  refine (devC4 (at3 (at2 (at1 V)))).trans ?_
  rw [v26_3]

/-- A statistic, after its stretch. -/
theorem v98_4 (V : Valuation τ sig (Elt F)) : (after opsB (at3 (at2 (at1 V)))) (Proc.devRef .tc main_v98) = Rho (L3 (V (Proc.devRef .tc main_arg0))) (H1 (V (Proc.devRef .tc main_arg0))) (H2 (V (Proc.devRef .tc main_arg0))) (H3 (V (Proc.devRef .tc main_arg0))) := by
  refine (rho4 (at3 (at2 (at1 V)))).trans ?_
  rw [v25_3, v8_3, v17_3, v26_3]

/-- A statistic, after its stretch. -/
theorem v101_4 (V : Valuation τ sig (Elt F)) : (after opsB (at3 (at2 (at1 V)))) (Proc.devRef .tc main_v101) = GMean (L3 (V (Proc.devRef .tc main_arg0))) := by
  refine (gmean4 (at3 (at2 (at1 V)))).trans ?_
  rw [v25_3]

/-- A statistic, after its stretch. -/
theorem v114_4 (V : Valuation τ sig (Elt F)) : (after opsB (at3 (at2 (at1 V)))) (Proc.devRef .tc main_v114) = GDev (L3 (V (Proc.devRef .tc main_arg0))) := by
  refine (gdev4 (at3 (at2 (at1 V)))).trans ?_
  rw [v25_3]

/-- The stack, after its stretch. -/
theorem v130_5 (V : Valuation τ sig (Elt F)) : (after opsC (after opsB (at3 (at2 (at1 V))))) (Proc.devRef .tc main_v130) = FeatX (V (Proc.devRef .tc main_arg0)) := by
  refine (feat5 (after opsB (at3 (at2 (at1 V))))).trans ?_
  rw [v30_4, v44_4, v58_4, v72_4, v98_4, v101_4, v114_4]
  rfl

/-- The bands and the statistics that the end reads. -/
def held : List (Ref sig .tc) := [main_v25, main_v8, main_v17, main_v26, main_v30, main_v44, main_v58, main_v72]

/-- What the statistics' operations leave of them is there at the recurrence. -/
theorem keepHeld (V : Valuation τ sig (Elt F)) (r : Ref sig .tc) (h : r ∈ held) :
    start V (Proc.devRef .tc r) = after opsB (at3 (at2 (at1 V))) (Proc.devRef .tc r) := by
  have d : ∀ r ∈ held, r ∉ W5 ∧ r ∉ W6 := by decide +kernel
  exact (keep6 _ r (d r h).2).trans (keep5 _ r (d r h).1)

/-- The statistics' operations leave the bands alone. -/
theorem keepBands (V : Valuation τ sig (Elt F)) (r : Ref sig .tc) (h : r ∈ held.take 4) :
    start V (Proc.devRef .tc r) = at3 (at2 (at1 V)) (Proc.devRef .tc r) := by
  have d : ∀ r ∈ held.take 4, r ∉ W4 := by decide +kernel
  exact (keepHeld V r (List.mem_of_mem_take h)).trans (keep4 _ r (d r h))

/-- The third approximation at the recurrence. -/
theorem v25_6 (V : Valuation τ sig (Elt F)) : (start V) (Proc.devRef .tc main_v25) = L3 (V (Proc.devRef .tc main_arg0)) :=
  (keepBands V main_v25 (by decide)).trans (v25_3 V)

/-- The first difference at the recurrence. -/
theorem v8_6 (V : Valuation τ sig (Elt F)) : (start V) (Proc.devRef .tc main_v8) = H1 (V (Proc.devRef .tc main_arg0)) :=
  (keepBands V main_v8 (by decide)).trans (v8_3 V)

/-- The second difference at the recurrence. -/
theorem v17_6 (V : Valuation τ sig (Elt F)) : (start V) (Proc.devRef .tc main_v17) = H2 (V (Proc.devRef .tc main_arg0)) :=
  (keepBands V main_v17 (by decide)).trans (v17_3 V)

/-- The third difference at the recurrence. -/
theorem v26_6 (V : Valuation τ sig (Elt F)) : (start V) (Proc.devRef .tc main_v26) = H3 (V (Proc.devRef .tc main_arg0)) :=
  (keepBands V main_v26 (by decide)).trans (v26_3 V)

/-- The patches' means at the recurrence. -/
theorem v30_6 (V : Valuation τ sig (Elt F)) : (start V) (Proc.devRef .tc main_v30) = Mean (L3 (V (Proc.devRef .tc main_arg0))) :=
  (keepHeld V main_v30 (by decide)).trans (v30_4 V)

/-- The patches' deviations at the recurrence. -/
theorem v44_6 (V : Valuation τ sig (Elt F)) : (start V) (Proc.devRef .tc main_v44) = Sdev (L3 (V (Proc.devRef .tc main_arg0))) :=
  (keepHeld V main_v44 (by decide)).trans (v44_4 V)

/-- The patches' deviations in the second difference at the recurrence. -/
theorem v58_6 (V : Valuation τ sig (Elt F)) : (start V) (Proc.devRef .tc main_v58) = Sdev (H2 (V (Proc.devRef .tc main_arg0))) :=
  (keepHeld V main_v58 (by decide)).trans (v58_4 V)

/-- The patches' deviations in the third difference at the recurrence. -/
theorem v72_6 (V : Valuation τ sig (Elt F)) : (start V) (Proc.devRef .tc main_v72) = Sdev (H3 (V (Proc.devRef .tc main_arg0))) :=
  (keepHeld V main_v72 (by decide)).trans (v72_4 V)

/-- What no stretch before the recurrence writes is as at launch. -/
theorem keep5' (V : Valuation τ sig (Elt F)) (r : Ref sig .tc) (h1 : r ∉ W1) (h2 : r ∉ W2) (h3 : r ∉ W3) (h4 : r ∉ W4) (h5 : r ∉ W5) :
    (after opsC (after opsB (at3 (at2 (at1 V))))) (Proc.devRef .tc r) = V (Proc.devRef .tc r) :=
  (keep5 (after opsB (at3 (at2 (at1 V)))) r h5).trans ((keep4 (at3 (at2 (at1 V))) r h4).trans ((keep3 (at2 (at1 V)) r h3).trans ((keep2 (at1 V) r h2).trans (keep1 V r h1))))

/-- What no stretch before the recurrence writes is as at launch, at the recurrence too. -/
theorem keep6' (V : Valuation τ sig (Elt F)) (r : Ref sig .tc) (h1 : r ∉ W1) (h2 : r ∉ W2) (h3 : r ∉ W3) (h4 : r ∉ W4) (h5 : r ∉ W5) (h6 : r ∉ W6) :
    start V (Proc.devRef .tc r) = V (Proc.devRef .tc r) :=
  (keep6 (after opsC (after opsB (at3 (at2 (at1 V))))) r h6).trans (keep5' V r h1 h2 h3 h4 h5)

/-- The arguments. -/
def args : List (Ref sig .tc) :=
  [main_arg0, main_arg1, main_arg2, main_arg3, main_arg4, main_arg5, main_arg6, main_arg7, main_arg8, main_arg9, main_arg10, main_arg11]

/-- No stretch before the recurrence writes an argument. -/
theorem args_not (r : Ref sig .tc) (h : r ∈ args) : r ∉ W1 ∧ r ∉ W2 ∧ r ∉ W3 ∧ r ∉ W4 ∧ r ∉ W5 ∧ r ∉ W6 := by
  have d : ∀ r ∈ args, r ∉ W1 ∧ r ∉ W2 ∧ r ∉ W3 ∧ r ∉ W4 ∧ r ∉ W5 ∧ r ∉ W6 := by decide +kernel
  exact d r h

/-- The arguments are as at launch before the gates' operations. -/
theorem keepArg5 (V : Valuation τ sig (Elt F)) (r : Ref sig .tc) (h : r ∈ args) :
    (after opsC (after opsB (at3 (at2 (at1 V))))) (Proc.devRef .tc r) = V (Proc.devRef .tc r) := by
  obtain ⟨h1, h2, h3, h4, h5, _⟩ := args_not r h
  exact keep5' V r h1 h2 h3 h4 h5

/-- The arguments are as at launch at the recurrence. -/
theorem keepArg6 (V : Valuation τ sig (Elt F)) (r : Ref sig .tc) (h : r ∈ args) : start V (Proc.devRef .tc r) = V (Proc.devRef .tc r) := by
  obtain ⟨h1, h2, h3, h4, h5, h6⟩ := args_not r h
  exact keep6' V r h1 h2 h3 h4 h5 h6

/-- The last patch's statistics at the recurrence. -/
theorem v132_6 (V : Valuation τ sig (Elt F)) : (start V) (Proc.devRef .tc main_v132) = Last (FeatX (V (Proc.devRef .tc main_arg0))) := by
  refine (last6 (after opsC (after opsB (at3 (at2 (at1 V)))))).trans ?_
  rw [v130_5]

/-- The input's gates at the recurrence. -/
theorem gates (V : Valuation τ sig (Elt F)) : (start V) (Proc.devRef .tc main_v151_1) = AllG (FeatX (V (Proc.devRef .tc main_arg0))) (V (Proc.devRef .tc main_arg1)) (V (Proc.devRef .tc main_arg3)) (V (Proc.devRef .tc main_arg9)) (V (Proc.devRef .tc main_arg5)) (V (Proc.devRef .tc main_arg7)) := by
  refine (gates6 (after opsC (after opsB (at3 (at2 (at1 V)))))).trans ?_
  rw [v130_5, keepArg5 V main_arg1 (by decide), keepArg5 V main_arg3 (by decide), keepArg5 V main_arg9 (by decide), keepArg5 V main_arg5 (by decide), keepArg5 V main_arg7 (by decide)]

/-- The steps' numbers at the recurrence. -/
theorem steps (V : Valuation τ sig (Elt F)) : (start V) (Proc.devRef .tc main_v151_0) = iotaInDim S44 32 0 := by
  exact iota6 (after opsC (after opsB (at3 (at2 (at1 V)))))

/-- The weights at the recurrence. -/
theorem carried (V : Valuation τ sig (Elt F)) :
    start V (Proc.devRef .tc main_v151_2) = V (Proc.devRef .tc main_arg2)
    ∧ start V (Proc.devRef .tc main_v151_3) = V (Proc.devRef .tc main_arg6)
    ∧ start V (Proc.devRef .tc main_v151_4) = V (Proc.devRef .tc main_arg4)
    ∧ start V (Proc.devRef .tc main_v151_5) = V (Proc.devRef .tc main_arg8) := by
  obtain ⟨h2, h3, h4, h5⟩ := carry6 (after opsC (after opsB (at3 (at2 (at1 V)))))
  exact ⟨h2.trans (keepArg5 V main_arg2 (by decide)), h3.trans (keepArg5 V main_arg6 (by decide)),
    h4.trans (keepArg5 V main_arg4 (by decide)), h5.trans (keepArg5 V main_arg8 (by decide))⟩

/-- The hidden state at the recurrence's start. -/
theorem zeros (V : Valuation τ sig (Elt F)) : (start V) (Proc.devRef .tc main_v151_7) = (broadcastInDim S16384x256 ![] bcast_S_S16384x256 (constant S_ .f32 0x00000000#32)) := by
  exact start6 (after opsC (after opsB (at3 (at2 (at1 V)))))

/-! ## The recurrence's other buffers, and the end -/

/-- The buffers a step writes. -/
abbrev WL : List (Ref sig .tc) := condOps_W ++ (while0Ops0_W ++ (while0Ops0_1_W ++ (while0Ops0_2_W ++ (while0Ops0_3_W ++ (while0Ops0_4_W
  ++ (while0Ops0_5_W ++ (while0Ops0_6_W ++ (while0Ops0_7_W ++ while0Ops0_8_W))))))))

/-- A step keeps what it does not write. -/
theorem keepStep (V : Valuation τ sig (Elt F)) (r : Ref sig .tc) (h : r ∉ WL) :
    afterL bodyI (after condOps V) (Proc.devRef .tc r) = V (Proc.devRef .tc r) := by
  simp only [WL, List.mem_append, not_or] at h
  obtain ⟨hc, h0, h1, h2, h3, h4, h5, h6, h7, h8⟩ := h
  simp only [afterL_cons, afterL_nil]
  rw [after_of_writes_sub while0Ops0_8 _ while0Ops0_8_writes h8, after_of_writes_sub while0Ops0_7 _ while0Ops0_7_writes h7,
    after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

/-- What no step writes is at every step as at the recurrence's start. -/
theorem keepLoop (c : Dev nD) (r : Ref sig .tc) (h : r ∉ WL) (k : ℕ) :
    atK m k c (Proc.devRef .tc r) = start (fun b => m (c, b)) (Proc.devRef .tc r) := by
  induction k with
  | zero => rw [← entry_eq m c]; rfl
  | succ k ih => exact (keepStep _ r h).trans ih

/-- The prediction from the buffers after the recurrence. -/
theorem post_pred (V : Valuation τ sig (Elt F)) : after hostOps0_7 V (Proc.devRef .tc main_v162)
    = Pred (V (Proc.devRef .tc main_v151_8)) (V (Proc.devRef .tc main_arg10)) (V (Proc.devRef .tc main_arg11)) (V (Proc.devRef .tc main_v132)) := by
  after_reads_simp
  rfl

/-- The normalised array from the buffers after the recurrence. -/
theorem post_norm (V : Valuation τ sig (Elt F)) : after hostOps0_7 V (Proc.devRef .tc main_v182)
    = XNorm (V (Proc.devRef .tc main_v25)) (V (Proc.devRef .tc main_v8)) (V (Proc.devRef .tc main_v17)) (V (Proc.devRef .tc main_v26))
        (V (Proc.devRef .tc main_v30)) (V (Proc.devRef .tc main_v44)) (V (Proc.devRef .tc main_v58)) (V (Proc.devRef .tc main_v72)) := by
  after_reads_simp
  rfl

/-- The condition's operations keep what they do not write. -/
theorem keepC (V : Valuation τ sig (Elt F)) (r : Ref sig .tc) (h : r ∉ condOps_W) : after condOps V (Proc.devRef .tc r) = V (Proc.devRef .tc r) :=
  after_of_writes_sub condOps V condOps_writes h

/-- The prediction at the end. -/
theorem final_pred (c : Dev nD) : finalContents condOps preI bodyI postI 44 m c (Proc.devRef .tc main_v162)
    = Pred (atK m 44 c (Proc.devRef .tc main_v151_8)) (m (c, Proc.devRef .tc main_arg10)) (m (c, Proc.devRef .tc main_arg11))
        (Last (FeatX (m (c, Proc.devRef .tc main_arg0)))) := by
  refine (post_pred (after condOps (atK m 44 c))).trans ?_
  rw [keepC _ main_v151_8 (by decide), keepC _ main_arg10 (by decide), keepC _ main_arg11 (by decide), keepC _ main_v132 (by decide),
    keepLoop m c main_arg10 (by decide +kernel) 44, keepLoop m c main_arg11 (by decide +kernel) 44, keepLoop m c main_v132 (by decide +kernel) 44,
    keepArg6 _ main_arg10 (by decide), keepArg6 _ main_arg11 (by decide), v132_6]

/-- The normalised array at the end. -/
theorem final_norm (c : Dev nD) : finalContents condOps preI bodyI postI 44 m c (Proc.devRef .tc main_v182)
    = (fun x : FVec F S32x720x512 .f32 => XNorm (L3 x) (H1 x) (H2 x) (H3 x) (Mean (L3 x)) (Sdev (L3 x)) (Sdev (H2 x)) (Sdev (H3 x)))
        (m (c, Proc.devRef .tc main_arg0)) := by
  refine (post_norm (after condOps (atK m 44 c))).trans ?_
  rw [keepC _ main_v25 (by decide), keepC _ main_v8 (by decide), keepC _ main_v17 (by decide), keepC _ main_v26 (by decide),
    keepC _ main_v30 (by decide), keepC _ main_v44 (by decide), keepC _ main_v58 (by decide), keepC _ main_v72 (by decide),
    keepLoop m c main_v25 (by decide +kernel) 44, keepLoop m c main_v8 (by decide +kernel) 44, keepLoop m c main_v17 (by decide +kernel) 44, keepLoop m c main_v26 (by decide +kernel) 44,
    keepLoop m c main_v30 (by decide +kernel) 44, keepLoop m c main_v44 (by decide +kernel) 44, keepLoop m c main_v58 (by decide +kernel) 44, keepLoop m c main_v72 (by decide +kernel) 44,
    v25_6, v8_6, v17_6, v26_6, v30_6, v44_6, v58_6, v72_6]

/-- The last operations leave the arguments alone. -/
theorem keep_args (V : Valuation τ sig (Elt F)) : ∀ r ∈ args, after hostOps0_7 V (Proc.devRef .tc r) = V (Proc.devRef .tc r) := by
  simp only [args, List.forall_mem_cons, List.not_mem_nil, false_implies, implies_true, and_true]
  refine ⟨?_, ?_, ?_, ?_, ?_, ?_, ?_, ?_, ?_, ?_, ?_, ?_⟩ <;> after_reads_simp

/-- The arguments are at the end as at launch. -/
theorem final_args (c : Dev nD) (r : Ref sig .tc) (h : r ∈ args) :
    finalContents condOps preI bodyI postI 44 m c (Proc.devRef .tc r) = m (c, Proc.devRef .tc r) := by
  have d : ∀ r ∈ args, r ∉ WL ∧ r ∉ condOps_W := by decide +kernel
  exact (keep_args (after condOps (atK m 44 c)) r h).trans ((keepC _ r (d r h).2).trans ((keepLoop m c r (d r h).1 44).trans (keepArg6 _ r h)))

end Cert.Proof.R

end
-- ==== Proof.RLoop.lean ====
/-
  The reference's recurrence, read at an entry: every column's own recurrence.
-/
module

public import proofs.«01_k».proof.Proof.RFold
public import Idealize.ShloMosaic.Lib.StableHlo.RunRead

@[expose] public section

set_option maxRecDepth 16384

noncomputable section

namespace Cert.Proof.R

open Cert.ReferenceIdeal Cert.ReferenceIdeal.Gen Cert.ReferenceIdeal.Value
open Idealize.ShloMosaic Idealize.ShloMosaic.TcCoe Idealize.ShloMosaic.Tactic Idealize.ShloMosaic.StableHlo
open Idealize.SL.Sem

/-- The counter at step `k` is `k`. -/
theorem ctr_toInt (k : ℕ) (hk : k < 44) : (Scf.iv 0#32 1#32 k).toInt = (k : ℤ) := by
  have h := Scf.toInt_iv (lb := 0#32) (ub := 44#32) (st := 1#32) (by decide) (k := k) (show k ≤ Scf.trips 0#32 44#32 1#32 from le_of_lt hk)
  rw [h]
  show (0 : ℤ) + k * 1 = k
  omega

/-- A row of a stack of arrays, cut out at a start inside it. -/
theorem slice_at {α : Type} (x : S44x16384x768.Idx → α) (st : Fin 3 → Int) (h : S44x16384x768.Slices (fun _ => 0) S1x16384x768) (k : ℕ)
    (hk : k < 44) (h0 : st 0 = (k : ℤ)) (h1 : st 1 = 0) (h2 : st 2 = 0) (n : Fin 16384) (g : Fin 768) :
    Host.dynamicSlice S1x16384x768 x st h (ix3 0 n g) = x (ix3 ⟨k, hk⟩ n g) := by
  have c0 := Host.clampedStart_of_le h.1 st 0 k h0 (show k + 1 ≤ 44 from hk)
  have c1 := Host.clampedStart_of_le h.1 st 1 0 h1 (show 0 + 16384 ≤ 16384 from le_refl _)
  have c2 := Host.clampedStart_of_le h.1 st 2 0 h2 (show 0 + 768 ≤ 768 from le_refl _)
  pointwise
  refine congrArg x (congr (congr (congrArg ix3 (Fin.ext ?_)) (Fin.ext ?_)) (Fin.ext ?_))
  · exact c0
  · exact (congrArg (· + n.val) c1).trans (Nat.zero_add _)
  · exact (congrArg (· + g.val) c2).trans (Nat.zero_add _)

/-- A stack of arrays with one row written at a start inside it. -/
theorem update_at {α : Type} (x : S44x16384x256.Idx → α) (u : S1x16384x256.Idx → α) (st : Fin 3 → Int)
    (h : S44x16384x256.Slices (fun _ => 0) S1x16384x256) (k : ℕ) (hk : k < 44) (h0 : st 0 = (k : ℤ)) (h1 : st 1 = 0) (h2 : st 2 = 0)
    (r : Fin 44) (n : Fin 16384) (j : Fin 256) :
    Host.dynamicUpdateSlice x u st h (ix3 r n j) = if r.val = k then u (ix3 0 n j) else x (ix3 r n j) := by
  have c0 := Host.clampedStart_of_le h.1 st 0 k h0 (show k + 1 ≤ 44 from hk)
  have c1 := Host.clampedStart_of_le h.1 st 1 0 h1 (show 0 + 16384 ≤ 16384 from le_refl _)
  have c2 := Host.clampedStart_of_le h.1 st 2 0 h2 (show 0 + 256 ≤ 256 from le_refl _)
  rw [Host.dynamicUpdateSlice_apply]
  by_cases hr : r.val = k
  · rw [if_pos hr]
    refine (dif_pos ?_).trans ?_
    · intro a
      fin_cases a
      · exact ⟨(le_of_eq c0).trans (le_of_eq hr.symm), (show r.val < k + 1 by omega).trans_le (le_of_eq (congrArg (· + 1) c0.symm))⟩
      · exact ⟨(le_of_eq c1).trans (Nat.zero_le _), (show n.val < 0 + 16384 by omega).trans_le (le_of_eq (congrArg (· + 16384) c1.symm))⟩
      · exact ⟨(le_of_eq c2).trans (Nat.zero_le _), (show j.val < 0 + 256 by omega).trans_le (le_of_eq (congrArg (· + 256) c2.symm))⟩
    · refine congrArg u (funext fun b => Fin.ext ?_)
      fin_cases b
      · exact (congrArg (r.val - ·) c0).trans (show r.val - k = 0 by omega)
      · exact (congrArg (n.val - ·) c1).trans (Nat.sub_zero _)
      · exact (congrArg (j.val - ·) c2).trans (Nat.sub_zero _)
  · rw [if_neg hr]
    refine dif_neg fun hin => hr ?_
    have h' := hin 0
    have l1 : k ≤ r.val := (le_of_eq c0.symm).trans h'.1
    have l2 : r.val < k + 1 := h'.2.trans_le (le_of_eq (congrArg (· + 1) c0))
    omega

/-- A choice by the step's number. -/
theorem pick_at {α : Type} (k : ℕ) (a b : α) : Scalar.select (if k < 30 then 1#1 else 0#1) a b = if k < 30 then a else b := by
  split <;> rfl

/-- The step's number tells the history from the future. -/
theorem slt_at (k : ℕ) (hk : k < 44) : IntOp.cmpi .slt (BitVec.ofNat 32 k) 30#32 = if k < 30 then 1#1 else 0#1 := by
  have : ∀ k : Fin 44, IntOp.cmpi .slt (BitVec.ofNat 32 k.val) 30#32 = if k.val < 30 then 1#1 else 0#1 := by decide
  exact this ⟨k, hk⟩

section

variable (V : Valuation τ sig (Elt Ideal)) (k : ℕ) (hk : k < 44)
  (hc : V (Proc.devRef .tc main_v151_6) = fun _ => Scf.iv 0#32 1#32 k)

include hk hc

/-- The step's number. -/
theorem num_at (h0 : V (Proc.devRef .tc main_v151_0) = iotaInDim S44 32 0) :
    res_main_while0b_v183 V = fun _ => BitVec.ofNat 32 k := by
  have e := ctr_toInt k hk
  funext i
  pointwise [res_main_while0b_v183, h0, hc]
  exact congrArg (BitVec.ofNat 32) (Host.clampedStart_of_le (s := S44) (t := S1) rfl _ 0 k e (show k + 1 ≤ 44 from hk))

/-- The step's input gates. -/
theorem gi_at (n : Fin 16384) (g : Fin 768) : res_main_while0b_v184 V (ix2 n g) = V (Proc.devRef .tc main_v151_1) (ix3 ⟨k, hk⟩ n g) := by
  have e := slice_at (V (Proc.devRef .tc main_v151_1))
    (fun a => (((![V (Proc.devRef .tc main_v151_6), constantI S_ 32 0#32, constantI S_ 32 0#32] : Fin 3 → (⟨S_, .i32⟩ : BufTy).Contents (Elt Ideal))) a (Shape.Idx.first h_S_)).toInt)
    sliceFits_S44x16384x768_S1x16384x768 k hk
    (by show (V (Proc.devRef .tc main_v151_6) (Shape.Idx.first h_S_)).toInt = _; rw [hc]; exact ctr_toInt k hk) rfl rfl n g
  unfold res_main_while0b_v184
  refine Eq.trans ?_ e
  generalize Host.dynamicSlice S1x16384x768 _ _ _ = w
  pointwise

/-- The step's hidden gates. -/
theorem gh_at (h0 : V (Proc.devRef .tc main_v151_0) = iotaInDim S44 32 0) (n : Fin 16384) (g : Fin 768) :
    res_main_while0b_v193 V (ix2 n g) = Spec.lin (fun g j => if k < 30 then V (Proc.devRef .tc main_v151_2) (ix2 g j) else V (Proc.devRef .tc main_v151_3) (ix2 g j))
      (fun g => if k < 30 then V (Proc.devRef .tc main_v151_4) (ix1 g) else V (Proc.devRef .tc main_v151_5) (ix1 g))
      (fun j => V (Proc.devRef .tc main_v151_7) (ix2 n j)) g := by
  have e := num_at V k hk hc h0
  have hs := slt_at k hk
  pointwise [res_main_while0b_v193, e]
  simp only [hs, pick_at]
  exact Ideal.add_congr (Finset.sum_congr rfl fun f _ => mul_comm _ _) rfl

omit hk hc in
/-- The new hidden state. -/
theorem new_at (n : Fin 16384) (j : Fin 256) : res_main_while0b_v221 V (ix2 n j)
    = Spec.step (fun g => res_main_while0b_v184 V (ix2 n g)) (fun g => res_main_while0b_v193 V (ix2 n g))
        (fun j => V (Proc.devRef .tc main_v151_7) (ix2 n j)) j := by
  pointwise [res_main_while0b_v221, res_main_while0b_v213]
  rfl

/-- The hidden states kept so far, one more written. -/
theorem upd_at (r : Fin 44) (n : Fin 16384) (j : Fin 256) : afterL bodyI V (Proc.devRef .tc main_v151_8) (ix3 r n j)
    = if r.val = k then res_main_while0b_v221 V (ix2 n j) else V (Proc.devRef .tc main_v151_8) (ix3 r n j) := by
  have e := update_at (V (Proc.devRef .tc main_v151_8)) (broadcastInDim S1x16384x256 ![1, 2] bcast_S16384x256_S1x16384x256_1_2 (res_main_while0b_v221 V))
    (fun a => (((![V (Proc.devRef .tc main_v151_6), constantI S_ 32 0#32, constantI S_ 32 0#32] : Fin 3 → (⟨S_, .i32⟩ : BufTy).Contents (Elt Ideal))) a (Shape.Idx.first h_S_)).toInt)
    updateFits_S44x16384x256_S1x16384x256 k hk
    (by show (V (Proc.devRef .tc main_v151_6) (Shape.Idx.first h_S_)).toInt = _; rw [hc]; exact ctr_toInt k hk) rfl rfl r n j
  rw [trip_main_v151_8]
  refine e.trans ?_
  have hb : (broadcastInDim S1x16384x256 ![1, 2] bcast_S16384x256_S1x16384x256_1_2 (res_main_while0b_v221 V)) (ix3 0 n j) = res_main_while0b_v221 V (ix2 n j) := by
    generalize res_main_while0b_v221 V = w
    pointwise
  rw [hb]

end

/-! ## Every column's recurrence -/

/-- The hidden state after `k` steps: of the history up to thirty, of the future from there. -/
def hid (w : Spec.Weights) (s : Fin 720 → EReal) (k : ℕ) : Fin 256 → EReal :=
  if k < 30 then Spec.enc w s k else Spec.dec w s (k - 30)

/-- The input's gates of step `k`. -/
def inp (w : Spec.Weights) (s : Fin 720 → EReal) (k : ℕ) : Fin 768 → EReal :=
  if k < 30 then Spec.lin w.Wi w.bi (Spec.feat s (Fin.ofNat 30 k)) else Spec.lin w.Wd w.bd (w.fe (Fin.ofNat 14 (k - 30)))

/-- The hidden state, one step on. -/
theorem hid_succ (w : Spec.Weights) (s : Fin 720 → EReal) (k : ℕ) : hid w s (k + 1)
    = Spec.step (inp w s k) (Spec.lin (fun g j => if k < 30 then w.We g j else w.Wh g j) (fun g => if k < 30 then w.be g else w.bh g) (hid w s k))
        (hid w s k) := by
  unfold hid inp
  by_cases h : k < 30
  · simp only [if_pos h]
    by_cases h' : k + 1 < 30
    · rw [if_pos h']
      rfl
    · obtain rfl : k = 29 := by omega
      rfl
  · simp only [if_neg h]
    rw [if_neg (by omega), show k + 1 - 30 = (k - 30) + 1 by omega]
    rfl

/-- The column of lane `n`. -/
def lane (x : FVec Ideal S32x720x512 .f32) (n : Fin 16384) : Fin 720 → EReal := colOf x ⟨n.val / 512, by omega⟩ ⟨n.val % 512, by omega⟩

/-- The weights, from the arguments. -/
def weightsR (x1 : FVec Ideal S768x7 .f32) (x2 : FVec Ideal S768x256 .f32) (x3 x4 : FVec Ideal S768 .f32)
    (x5 : FVec Ideal S768x16 .f32) (x6 : FVec Ideal S768x256 .f32) (x7 x8 : FVec Ideal S768 .f32) (x9 : FVec Ideal S14x16 .f32)
    (x10 : FVec Ideal S4x256 .f32) (x11 : FVec Ideal S4 .f32) : Spec.Weights where
  Wi := fun g k => x1 (ix2 g k)
  We := fun g k => x2 (ix2 g k)
  bi := fun g => x3 (ix1 g)
  be := fun g => x4 (ix1 g)
  Wd := fun g k => x5 (ix2 g k)
  Wh := fun g k => x6 (ix2 g k)
  bd := fun g => x7 (ix1 g)
  bh := fun g => x8 (ix1 g)
  fe := fun t k => x9 (ix2 t k)
  hW := fun o k => x10 (ix2 o k)
  hb := fun o => x11 (ix1 o)

/-- The first approximation's column. -/
theorem col_A1 (x : FVec Ideal S32x720x512 .f32) (b : Fin 32) (c : Fin 512) : colOf (A1 x) b c = Spec.a1 (colOf x b c) :=
  funext fun t => A1_at x b t c

/-- The second approximation's column. -/
theorem col_L2 (x : FVec Ideal S32x720x512 .f32) (b : Fin 32) (c : Fin 512) : colOf (L2 x) b c = Spec.a2 (colOf x b c) :=
  funext fun t => (A2_at (A1 x) b t c).trans (by rw [col_A1]; rfl)

/-- The third approximation's column. -/
theorem col_L3 (x : FVec Ideal S32x720x512 .f32) (b : Fin 32) (c : Fin 512) : colOf (L3 x) b c = Spec.a3 (colOf x b c) :=
  funext fun t => (A3_at (L2 x) b t c).trans (by rw [col_L2]; rfl)

/-- The first difference's column. -/
theorem col_H1 (x : FVec Ideal S32x720x512 .f32) (b : Fin 32) (c : Fin 512) : colOf (H1 x) b c = Spec.hi (colOf x b c) :=
  funext fun t => by
    have e : A1 x (ix3 b t c) = Spec.a1 (colOf x b c) t := A1_at x b t c
    unfold colOf at e ⊢
    pointwise [H1, e]
    rfl

/-- The second difference's column. -/
theorem col_H2 (x : FVec Ideal S32x720x512 .f32) (b : Fin 32) (c : Fin 512) : colOf (H2 x) b c = Spec.d2 (colOf x b c) :=
  funext fun t => by
    have e : A1 x (ix3 b t c) = Spec.a1 (colOf x b c) t := A1_at x b t c
    have e2 : L2 x (ix3 b t c) = Spec.a2 (colOf x b c) t := congrFun (col_L2 x b c) t
    unfold colOf at e e2 ⊢
    pointwise [H2, e, e2]
    rfl

/-- The third difference's column. -/
theorem col_H3 (x : FVec Ideal S32x720x512 .f32) (b : Fin 32) (c : Fin 512) : colOf (H3 x) b c = Spec.d3 (colOf x b c) :=
  funext fun t => by
    have e : L2 x (ix3 b t c) = Spec.a2 (colOf x b c) t := congrFun (col_L2 x b c) t
    have e2 : L3 x (ix3 b t c) = Spec.a3 (colOf x b c) t := congrFun (col_L3 x b c) t
    unfold colOf at e e2 ⊢
    pointwise [H3, e, e2]
    rfl

/-- The features, at an entry. -/
theorem FeatX_at (x : FVec Ideal S32x720x512 .f32) (b : Fin 32) (p : Fin 30) (f : Fin 7) (c : Fin 512) :
    FeatX x (ix4 b p f c) = Spec.feat (colOf x b c) p f :=
  Feat_at _ _ _ _ (colOf x b c) b p f c (col_L3 x b c) (col_H1 x b c) (col_H2 x b c) (col_H3 x b c)

/-- The input's gates, at an entry. -/
theorem AllG_at (x : FVec Ideal S32x720x512 .f32) (x1 : FVec Ideal S768x7 .f32) (x2 : FVec Ideal S768x256 .f32) (x3 x4 : FVec Ideal S768 .f32)
    (x5 : FVec Ideal S768x16 .f32) (x6 : FVec Ideal S768x256 .f32) (x7 x8 : FVec Ideal S768 .f32) (x9 : FVec Ideal S14x16 .f32)
    (x10 : FVec Ideal S4x256 .f32) (x11 : FVec Ideal S4 .f32) (k : ℕ) (hk : k < 44) (n : Fin 16384) (g : Fin 768) :
    AllG (F := Ideal) (FeatX x) x1 x3 x9 x5 x7 (ix3 ⟨k, hk⟩ n g) = inp (weightsR x1 x2 x3 x4 x5 x6 x7 x8 x9 x10 x11) (lane x n) k g := by
  have he := EncG_at (FeatX x) x1 x3 (lane x) (fun n p f => FeatX_at x _ p f _)
  unfold inp
  by_cases h : k < 30
  · rw [if_pos h, show Fin.ofNat 30 k = ⟨k, h⟩ from Fin.ext (Nat.mod_eq_of_lt h)]
    refine Eq.trans ?_ (he ⟨k, h⟩ n g)
    pointwise [AllG]
    exact dif_pos h
  · rw [if_neg h, show Fin.ofNat 14 (k - 30) = ⟨k - 30, by omega⟩ from Fin.ext (Nat.mod_eq_of_lt (by omega))]
    refine Eq.trans ?_ (DecG_at x9 x5 x7 ⟨k - 30, by omega⟩ n g)
    pointwise [AllG]
    exact dif_neg h

end Cert.Proof.R

end
-- ==== Proof.RSpec.lean ====
/-
  The reference's two results, at an entry: each column's mathematics.
-/
module

public import proofs.«01_k».proof.Proof.RLoop
public import Idealize.ShloMosaic.Lib.StableHlo.RunRead

@[expose] public section

set_option maxRecDepth 16384

noncomputable section

namespace Cert.Proof.R

open Cert.ReferenceIdeal Cert.ReferenceIdeal.Gen Cert.ReferenceIdeal.Value
open Idealize.ShloMosaic Idealize.ShloMosaic.TcCoe Idealize.ShloMosaic.Tactic Idealize.ShloMosaic.StableHlo
open Idealize.SL.Sem

variable (m : (ℓ : Loc nD τ sig) → Buf (Elt Ideal) ℓ)

/-- The weights in a device's arguments. -/
abbrev wts (c : Dev nD) : Spec.Weights :=
  weightsR (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6))
    (m (c, Proc.devRef .tc main_arg7)) (m (c, Proc.devRef .tc main_arg8)) (m (c, Proc.devRef .tc main_arg9))
    (m (c, Proc.devRef .tc main_arg10)) (m (c, Proc.devRef .tc main_arg11))

/-- The signal in a device's arguments. -/
abbrev sig0 (c : Dev nD) : FVec Ideal S32x720x512 .f32 := m (c, Proc.devRef .tc main_arg0)

/-- After `k` steps the hidden state is every column's, and the first `k` rows kept are the states after each step. -/
theorem loop_at (c : Dev nD) (k : ℕ) (hk : k ≤ 44) :
    (∀ n j, atK m k c (Proc.devRef .tc main_v151_7) (ix2 n j) = hid (wts m c) (lane (sig0 m c) n) k j)
      ∧ ∀ (r : Fin 44) n j, r.val < k →
          atK m k c (Proc.devRef .tc main_v151_8) (ix3 r n j) = hid (wts m c) (lane (sig0 m c) n) (r.val + 1) j := by
  induction k with
  | zero =>
    refine ⟨fun n j => ?_, fun r n j h => absurd h (Nat.not_lt_zero _)⟩
    have e := zeros (F := Ideal) (fun b => m (c, b))
    rw [← entry_eq m c] at e
    refine (congrFun e _).trans ?_
    pointwise
    rfl
  | succ k ih =>
    have hk' : k < 44 := hk
    obtain ⟨ih7, ih8⟩ := ih hk'.le
    let X : Valuation τ sig (Elt Ideal) := after condOps (atK m k c)
    have e0 : X (Proc.devRef .tc main_v151_0) = iotaInDim S44 32 0 :=
      (keepC _ main_v151_0 (by decide)).trans ((keepLoop m c main_v151_0 (by decide +kernel) k).trans (steps _))
    have e1 := (keepC (atK m k c) main_v151_1 (by decide)).trans ((keepLoop m c main_v151_1 (by decide +kernel) k).trans (gates _))
    have e2 : X (Proc.devRef .tc main_v151_2) = m (c, Proc.devRef .tc main_arg2) :=
      (keepC (atK m k c) main_v151_2 (by decide)).trans ((keepLoop m c main_v151_2 (by decide +kernel) k).trans (carried _).1)
    have e3 : X (Proc.devRef .tc main_v151_3) = m (c, Proc.devRef .tc main_arg6) :=
      (keepC (atK m k c) main_v151_3 (by decide)).trans ((keepLoop m c main_v151_3 (by decide +kernel) k).trans (carried _).2.1)
    have e4 : X (Proc.devRef .tc main_v151_4) = m (c, Proc.devRef .tc main_arg4) :=
      (keepC (atK m k c) main_v151_4 (by decide)).trans ((keepLoop m c main_v151_4 (by decide +kernel) k).trans (carried _).2.2.1)
    have e5 : X (Proc.devRef .tc main_v151_5) = m (c, Proc.devRef .tc main_arg8) :=
      (keepC (atK m k c) main_v151_5 (by decide)).trans ((keepLoop m c main_v151_5 (by decide +kernel) k).trans (carried _).2.2.2)
    have e6 : X (Proc.devRef .tc main_v151_6) = fun _ => Scf.iv 0#32 1#32 k := (keepC _ main_v151_6 (by decide)).trans (atK_ctr m c k)
    have e7 := keepC (atK m k c) main_v151_7 (by decide)
    have e8 := keepC (atK m k c) main_v151_8 (by decide)
    have new : ∀ n j, res_main_while0b_v221 X (ix2 n j) = hid (wts m c) (lane (sig0 m c) n) (k + 1) j := by
      intro n j
      rw [new_at, hid_succ]
      have hg : (fun g => res_main_while0b_v184 X (ix2 n g)) = inp (wts m c) (lane (sig0 m c) n) k :=
        funext fun g => (gi_at X k hk' e6 n g).trans ((congrFun e1 _).trans (AllG_at (sig0 m c) _ _ _ _ _ _ _ _ _ _ _ k hk' n g))
      have hh : (fun j => X (Proc.devRef .tc main_v151_7) (ix2 n j)) = hid (wts m c) (lane (sig0 m c) n) k :=
        funext fun j => (congrFun e7 _).trans (ih7 n j)
      have hH : (fun g => res_main_while0b_v193 X (ix2 n g))
          = Spec.lin (fun g j => if k < 30 then (wts m c).We g j else (wts m c).Wh g j)
              (fun g => if k < 30 then (wts m c).be g else (wts m c).bh g) (hid (wts m c) (lane (sig0 m c) n) k) := by
        funext g
        rw [gh_at X k hk' e6 e0 n g, hh, e2, e3, e4, e5]
        rfl
      rw [hg, hh, hH]
    refine ⟨fun n j => ?_, fun r n j hr => ?_⟩
    · exact (congrFun (trip_main_v151_7 X) _).trans (new n j)
    · refine (upd_at X k hk' e6 r n j).trans ?_
      by_cases h : r.val = k
      · rw [if_pos h, new n j, h]
      · rw [if_neg h]
        exact (congrFun e8 _).trans (ih8 r n j (by omega))

/-- The prediction, at an entry. -/
theorem pred_at (c : Dev nD) (b : Fin 32) (t : Fin 14) (o : Fin 4) (l : Fin 512) :
    finalContents condOps preI bodyI postI 44 m c (Proc.devRef .tc main_v162) (ix4 b t o l)
      = Spec.pred (wts m c) (colOf (sig0 m c) b l) t o := by
  have hl : lane (sig0 m c) ⟨b.val * 512 + l.val, by omega⟩ = colOf (sig0 m c) b l := by
    unfold lane
    rw [show (⟨(b.val * 512 + l.val) / 512, by omega⟩ : Fin 32) = b from Fin.ext (by show (b.val * 512 + l.val) / 512 = b.val; omega),
      show (⟨(b.val * 512 + l.val) % 512, by omega⟩ : Fin 512) = l from Fin.ext (by show (b.val * 512 + l.val) % 512 = l.val; omega)]
  have hd : ∀ j, hid (wts m c) (colOf (sig0 m c) b l) (30 + t.val + 1) j = Spec.dec (wts m c) (colOf (sig0 m c) b l) (t.val + 1) j := by
    intro j
    unfold hid
    rw [if_neg (by omega), show 30 + t.val + 1 - 30 = t.val + 1 by omega]
  refine (congrFun (final_pred m c) _).trans ?_
  rw [Pred_at, Last_at (FeatX (sig0 m c)) (colOf (sig0 m c) b l) b o l (fun p f => FeatX_at _ b p f l)]
  have hs : (fun k => atK m 44 c (Proc.devRef .tc main_v151_8) (ix3 ⟨30 + t.val, by omega⟩ ⟨b.val * 512 + l.val, by omega⟩ k))
      = Spec.dec (wts m c) (colOf (sig0 m c) b l) (t.val + 1) := by
    funext j
    rw [(loop_at m c 44 (le_refl _)).2 ⟨30 + t.val, by omega⟩ ⟨b.val * 512 + l.val, by omega⟩ j (by show 30 + t.val < 44; omega), hl]
    exact hd j
  rw [hs]
  rfl

/-- The normalised signal, at an entry. -/
theorem norm_at (c : Dev nD) (b : Fin 32) (t : Fin 720) (l : Fin 512) :
    finalContents condOps preI bodyI postI 44 m c (Proc.devRef .tc main_v182) (ix3 b t l) = Spec.xnorm (colOf (sig0 m c) b l) t := by
  refine (congrFun (final_norm m c) _).trans ?_
  exact XNorm_at _ _ _ _ (colOf (sig0 m c) b l) b t l (col_L3 _ b l) (col_H1 _ b l) (col_H2 _ b l) (col_H3 _ b l)

end Cert.Proof.R

end
-- ==== Proof.RRun.lean ====
/-
  The reference's runs: they end, its results are as computed, its arguments as they were.
-/
module

public import proofs.«01_k».proof.Proof.RSpec
public import Idealize.ShloMosaic.Lib.StableHlo.RunRead

public import Idealize.ShloMosaic.Lib.Quiescent

@[expose] public section

set_option maxRecDepth 16384

noncomputable section

namespace Cert.Proof.R

open Cert.ReferenceIdeal Cert.ReferenceIdeal.Gen Cert.ReferenceIdeal.Value
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg)

/-- Every run ends with the two results at the fold and the arguments as they were. -/
theorem run : θ_run (defs (F := Ideal)) (onTc (τ := τ) (main (F := Ideal))) ⟨m, fun _ => 0, ρ⟩ (fun r => ∀ c : Dev nD,
    r.2.mem ((c.tc : Thread nD τ).loc main_v182) = finalContents condOps preI bodyI postI 44 m c (Proc.devRef .tc main_v182)
    ∧ r.2.mem ((c.tc : Thread nD τ).loc main_v162) = finalContents condOps preI bodyI postI 44 m c (Proc.devRef .tc main_v162)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)) :=
  (θ_run (defs (F := Ideal)) _ _).mono (fun r h c => ⟨h c main_v182 rfl, h c main_v162 rfl,
    (h c main_arg0 rfl).trans (final_args m c main_arg0 (by decide)),
    (h c main_arg1 rfl).trans (final_args m c main_arg1 (by decide)),
    (h c main_arg2 rfl).trans (final_args m c main_arg2 (by decide)),
    (h c main_arg3 rfl).trans (final_args m c main_arg3 (by decide)),
    (h c main_arg4 rfl).trans (final_args m c main_arg4 (by decide)),
    (h c main_arg5 rfl).trans (final_args m c main_arg5 (by decide)),
    (h c main_arg6 rfl).trans (final_args m c main_arg6 (by decide)),
    (h c main_arg7 rfl).trans (final_args m c main_arg7 (by decide)),
    (h c main_arg8 rfl).trans (final_args m c main_arg8 (by decide)),
    (h c main_arg9 rfl).trans (final_args m c main_arg9 (by decide)),
    (h c main_arg10 rfl).trans (final_args m c main_arg10 (by decide)),
    (h c main_arg11 rfl).trans (final_args m c main_arg11 (by decide))⟩) (run_fold m ρ)

end Cert.Proof.R

end
-- ==== Proof.lean ====
/- The proof of the five claims: the three frames, what the idealization rewrites, and that from equal
   arguments the idealized kernel and the reference end with equal results. -/
module

public import proofs.«01_k».proof.Proof.Gen.ReferenceIdeal.Run
public import proofs.«01_k».proof.Proof.Gen.KernelIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KSpec
public import proofs.«01_k».proof.Proof.RRun
public import Idealize.ShloMosaic.Adequacy
public import Idealize.ShloMosaic.Init

@[expose] public section

noncomputable section

namespace Cert.Proof

open Idealize.ShloMosaic Idealize.SL.Sem Cert.Kernel

/-- Equal arguments give the two programs the same weights. -/
theorem weights_congr {x1 y1 : FVec Ideal Cert.KernelIdeal.S768x7 .f32} {x2 y2 : FVec Ideal Cert.KernelIdeal.S768x256 .f32}
    {x3 y3 x4 y4 : FVec Ideal Cert.KernelIdeal.S768 .f32} {x5 y5 : FVec Ideal Cert.KernelIdeal.S768x16 .f32}
    {x6 y6 : FVec Ideal Cert.KernelIdeal.S768x256 .f32} {x7 y7 x8 y8 : FVec Ideal Cert.KernelIdeal.S768 .f32}
    {x9 y9 : FVec Ideal Cert.KernelIdeal.S14x16 .f32} {x10 y10 : FVec Ideal Cert.KernelIdeal.S4x256 .f32}
    {x11 y11 : FVec Ideal Cert.KernelIdeal.S4 .f32} (h1 : x1 = y1) (h2 : x2 = y2) (h3 : x3 = y3) (h4 : x4 = y4) (h5 : x5 = y5)
    (h6 : x6 = y6) (h7 : x7 = y7) (h8 : x8 = y8) (h9 : x9 = y9) (h10 : x10 = y10) (h11 : x11 = y11) :
    R.weightsR x1 x2 x3 x4 x5 x6 x7 x8 x9 x10 x11 = K.weightsK y1 y2 y3 y4 y5 y6 y7 y8 y9 y10 y11 := by
  subst h1 h2 h3 h4 h5 h6 h7 h8 h9 h10 h11
  rfl

/-- Equal signals have equal columns. -/
theorem col_congr {X Y : FVec Ideal Cert.KernelIdeal.S32x720x512 .f32} (h : X = Y) (b : Fin 32) (l : Fin 512) :
    R.colOf X b l = fun t => Y (ix3 b t l) := by
  subst h
  rfl

/-- The reference's runs end with its arguments as they were and every semaphore at zero. -/
theorem frame_reference : Cert.quiescent_ReferenceIdeal := fun m ρ _ =>
  (θ_run (Cert.ReferenceIdeal.defs (F := Ideal)) _ _).mono
    (fun r h => ⟨fun c => (h c).2.2, Idealize.ShloMosaic.sem_eq_zero_of_no_sems (by decide) r.2⟩) (R.run m ρ)

/-- From equal arguments the kernel and the reference end with equal results. -/
theorem algebraic : Cert.algebraic_KernelIdeal_ReferenceIdeal := by
  intro m ρ m' ρ' _ hm
  have hw : ∀ c, R.wts m' c = K.wts m c := fun c => by
    obtain ⟨_, h1, h2, h3, h4, h5, h6, h7, h8, h9, h10, h11⟩ := hm c
    exact weights_congr h1 h2 h3 h4 h5 h6 h7 h8 h9 h10 h11
  have hx : ∀ c b l, R.colOf (R.sig0 m' c) b l = fun t => K.sig0 m c (ix3 b t l) := fun c b l => col_congr (hm c).1 b l
  refine ⟨fun c => Cert.KernelIdeal.Value.reg_main_v6_0 m c, _, Cert.KernelIdeal.Value.run m ρ, ?_⟩
  refine (θ_run (Cert.ReferenceIdeal.defs (F := Ideal)) _ _).mono (fun r h c => ⟨(h c).1.trans ?_, (h c).2.1.trans ?_, (h c).2.2⟩) (R.run m' ρ')
  · funext y
    obtain ⟨b, t, l, rfl⟩ : ∃ (b : Fin 32) (t : Fin 720) (l : Fin 512), y = ix3 b t l := ⟨_, _, _, eq_ix3 y⟩
    refine (R.norm_at m' c b t l).trans (Eq.trans ?_ (K.norm_at m c b t l).symm)
    rw [hx c b l]
  · funext y
    obtain ⟨b, t, o, l, rfl⟩ : ∃ (b : Fin 32) (t : Fin 14) (o : Fin 4) (l : Fin 512), y = ix4 b t o l := ⟨_, _, _, _, eq_ix4 y⟩
    refine (R.pred_at m' c b t o l).trans (Eq.trans ?_ (K.pred_at m c b t o l).symm)
    rw [hw c, hx c b l]

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference,
  ⟨IdealRules.named_const.statement _ _ _ _ _ rfl, IdealRules.named_const.statement _ _ _ _ _ rfl⟩, algebraic⟩

end Cert.Proof

end
